-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x15x50x50 : Shape := ⟨4, ![2, 15, 50, 50]⟩
abbrev S2x60x50x50 : Shape := ⟨4, ![2, 60, 50, 50]⟩
abbrev S2x3 : Shape := ⟨2, ![2, 3]⟩
abbrev S37500x4 : Shape := ⟨2, ![37500, 4]⟩
abbrev S2x50x50x15 : Shape := ⟨4, ![2, 50, 50, 15]⟩
abbrev S2x37500 : Shape := ⟨2, ![2, 37500]⟩
abbrev S2x15x4x50x50 : Shape := ⟨5, ![2, 15, 4, 50, 50]⟩
abbrev S2x50x50x15x4 : Shape := ⟨5, ![2, 50, 50, 15, 4]⟩
abbrev S2x37500x4 : Shape := ⟨3, ![2, 37500, 4]⟩
abbrev S2x2000 : Shape := ⟨2, ![2, 2000]⟩
abbrev S_ : Shape := ⟨0, ![]⟩
abbrev S2x2000x1 : Shape := ⟨3, ![2, 2000, 1]⟩
abbrev S2x2000x4 : Shape := ⟨3, ![2, 2000, 4]⟩
abbrev S1 : Shape := ⟨1, ![1]⟩
abbrev S1x1x1 : Shape := ⟨3, ![1, 1, 1]⟩
abbrev S2x2048x4 : Shape := ⟨3, ![2, 2048, 4]⟩
abbrev S2x2048 : Shape := ⟨2, ![2, 2048]⟩
abbrev S2x4x2048 : Shape := ⟨3, ![2, 4, 2048]⟩
abbrev S2x1x2048 : Shape := ⟨3, ![2, 1, 2048]⟩
abbrev S2x2048x1 : Shape := ⟨3, ![2, 2048, 1]⟩
abbrev S2x1x3 : Shape := ⟨3, ![2, 1, 3]⟩
abbrev S2x1024x8 : Shape := ⟨3, ![2, 1024, 8]⟩
abbrev S1x1x3 : Shape := ⟨3, ![1, 1, 3]⟩
abbrev S1x4x2048 : Shape := ⟨3, ![1, 4, 2048]⟩
abbrev S1x1x2048 : Shape := ⟨3, ![1, 1, 2048]⟩
abbrev S1x2048x4 : Shape := ⟨3, ![1, 2048, 4]⟩
abbrev S1x2048x1 : Shape := ⟨3, ![1, 2048, 1]⟩
abbrev S1x1024x8 : Shape := ⟨3, ![1, 1024, 8]⟩
abbrev S2048x2048 : Shape := ⟨2, ![2048, 2048]⟩
abbrev S2048x8 : Shape := ⟨2, ![2048, 8]⟩
abbrev S1x2048 : Shape := ⟨2, ![1, 2048]⟩
abbrev S2048x1 : Shape := ⟨2, ![2048, 1]⟩
abbrev S2048x2 : Shape := ⟨2, ![2048, 2]⟩
abbrev S128x1 : Shape := ⟨2, ![128, 1]⟩
abbrev S128x2048 : Shape := ⟨2, ![128, 2048]⟩
abbrev S1024x1 : Shape := ⟨2, ![1024, 1]⟩
abbrev S1024x2048 : Shape := ⟨2, ![1024, 2048]⟩
abbrev S1024x8 : Shape := ⟨2, ![1024, 8]⟩
abbrev S1x1024x1 : Shape := ⟨3, ![1, 1024, 1]⟩
abbrev S1024x4 : Shape := ⟨2, ![1024, 4]⟩
abbrev S1x1024x4 : Shape := ⟨3, ![1, 1024, 4]⟩
abbrev S1024x2 : Shape := ⟨2, ![1024, 2]⟩
abbrev S1x1024x2 : Shape := ⟨3, ![1, 1024, 2]⟩
abbrev S2x1000x5 : Shape := ⟨3, ![2, 1000, 5]⟩
abbrev S2000x5 : Shape := ⟨2, ![2000, 5]⟩
abbrev S2x1000x1 : Shape := ⟨3, ![2, 1000, 1]⟩
abbrev S2000x1 : Shape := ⟨2, ![2000, 1]⟩

abbrev nBuf : Space → Nat
  | .hbm => 62
  | .vmem => 17
  | .smem => 2
  | _ => 0

abbrev bufTy : (tb : Table) → Fin (tcTables nBuf tb) → BufTy
  | .hbm, ⟨0, _⟩ => ⟨S2x15x50x50, .f32⟩
  | .hbm, ⟨1, _⟩ => ⟨S2x60x50x50, .f32⟩
  | .hbm, ⟨2, _⟩ => ⟨S2x3, .f32⟩
  | .hbm, ⟨3, _⟩ => ⟨S37500x4, .f32⟩
  | .hbm, ⟨4, _⟩ => ⟨S2x50x50x15, .f32⟩
  | .hbm, ⟨5, _⟩ => ⟨S2x37500, .f32⟩
  | .hbm, ⟨6, _⟩ => ⟨S2x15x4x50x50, .f32⟩
  | .hbm, ⟨7, _⟩ => ⟨S2x50x50x15x4, .f32⟩
  | .hbm, ⟨8, _⟩ => ⟨S2x37500x4, .f32⟩
  | .hbm, ⟨9, _⟩ => ⟨S2x2000, .f32⟩
  | .hbm, ⟨10, _⟩ => ⟨S2x2000, .i32⟩
  | .hbm, ⟨11, _⟩ => ⟨S_, .i32⟩
  | .hbm, ⟨12, _⟩ => ⟨S2x2000, .i32⟩
  | .hbm, ⟨13, _⟩ => ⟨S2x2000, .i1⟩
  | .hbm, ⟨14, _⟩ => ⟨S_, .i32⟩
  | .hbm, ⟨15, _⟩ => ⟨S2x2000, .i32⟩
  | .hbm, ⟨16, _⟩ => ⟨S2x2000, .i32⟩
  | .hbm, ⟨17, _⟩ => ⟨S2x2000, .i32⟩
  | .hbm, ⟨18, _⟩ => ⟨S2x2000x1, .i32⟩
  | .hbm, ⟨19, _⟩ => ⟨S2x2000x4, .f32⟩
  | .hbm, ⟨20, _⟩ => ⟨S2x2000x1, .i32⟩
  | .hbm, ⟨21, _⟩ => ⟨S_, .i32⟩
  | .hbm, ⟨22, _⟩ => ⟨S2x2000x1, .i32⟩
  | .hbm, ⟨23, _⟩ => ⟨S2x2000x1, .i1⟩
  | .hbm, ⟨24, _⟩ => ⟨S_, .i32⟩
  | .hbm, ⟨25, _⟩ => ⟨S2x2000x1, .i32⟩
  | .hbm, ⟨26, _⟩ => ⟨S2x2000x1, .i32⟩
  | .hbm, ⟨27, _⟩ => ⟨S2x2000x1, .i32⟩
  | .hbm, ⟨28, _⟩ => ⟨S1, .i32⟩
  | .hbm, ⟨29, _⟩ => ⟨S_, .i32⟩
  | .hbm, ⟨30, _⟩ => ⟨S2x2000x1, .i32⟩
  | .hbm, ⟨31, _⟩ => ⟨S2x2000x1, .i1⟩
  | .hbm, ⟨32, _⟩ => ⟨S1x1x1, .i32⟩
  | .hbm, ⟨33, _⟩ => ⟨S2x2000x1, .i32⟩
  | .hbm, ⟨34, _⟩ => ⟨S2x2000x1, .i1⟩
  | .hbm, ⟨35, _⟩ => ⟨S2x2000x1, .i1⟩
  | .hbm, ⟨36, _⟩ => ⟨S_, .i1⟩
  | .hbm, ⟨37, _⟩ => ⟨S2x2000, .i1⟩
  | .hbm, ⟨38, _⟩ => ⟨S2x2000x4, .f32⟩
  | .hbm, ⟨39, _⟩ => ⟨S2x2000x4, .i1⟩
  | .hbm, ⟨40, _⟩ => ⟨S_, .f32⟩
  | .hbm, ⟨41, _⟩ => ⟨S2x2000x4, .f32⟩
  | .hbm, ⟨42, _⟩ => ⟨S2x2000x4, .f32⟩
  | .hbm, ⟨43, _⟩ => ⟨S_, .i32⟩
  | .hbm, ⟨44, _⟩ => ⟨S_, .f32⟩
  | .hbm, ⟨45, _⟩ => ⟨S2x2048x4, .f32⟩
  | .hbm, ⟨46, _⟩ => ⟨S_, .i32⟩
  | .hbm, ⟨47, _⟩ => ⟨S_, .f32⟩
  | .hbm, ⟨48, _⟩ => ⟨S2x2048x4, .f32⟩
  | .hbm, ⟨49, _⟩ => ⟨S_, .i32⟩
  | .hbm, ⟨50, _⟩ => ⟨S_, .f32⟩
  | .hbm, ⟨51, _⟩ => ⟨S2x2048, .f32⟩
  | .hbm, ⟨52, _⟩ => ⟨S2x4x2048, .f32⟩
  | .hbm, ⟨53, _⟩ => ⟨S2x4x2048, .f32⟩
  | .hbm, ⟨54, _⟩ => ⟨S2x1x2048, .f32⟩
  | .hbm, ⟨55, _⟩ => ⟨S2x2048x1, .f32⟩
  | .hbm, ⟨56, _⟩ => ⟨S2x1x3, .f32⟩
  | .hbm, ⟨57, _⟩ => ⟨S2x1024x8, .f32⟩
  | .hbm, ⟨58, _⟩ => ⟨S2x1000x5, .f32⟩
  | .hbm, ⟨59, _⟩ => ⟨S2000x5, .f32⟩
  | .hbm, ⟨60, _⟩ => ⟨S2x1000x1, .f32⟩
  | .hbm, ⟨61, _⟩ => ⟨S2000x1, .f32⟩
  | .local _ .vmem, ⟨0, _⟩ => ⟨S1x4x2048, .f32⟩
  | .local _ .vmem, ⟨1, _⟩ => ⟨S1x4x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x4, .f32⟩
  | .local _ .vmem, ⟨7, _⟩ => ⟨S1x2048x4, .f32⟩
  | .local _ .vmem, ⟨8, _⟩ => ⟨S1x2048x4, .f32⟩
  | .local _ .vmem, ⟨9, _⟩ => ⟨S1x2048x4, .f32⟩
  | .local _ .vmem, ⟨10, _⟩ => ⟨S1x2048x1, .f32⟩
  | .local _ .vmem, ⟨11, _⟩ => ⟨S1x2048x1, .f32⟩
  | .local _ .vmem, ⟨12, _⟩ => ⟨S1x1024x8, .f32⟩
  | .local _ .vmem, ⟨13, _⟩ => ⟨S1x1024x8, .f32⟩
  | .local _ .vmem, ⟨14, _⟩ => ⟨S2048x2048, .f32⟩
  | .local _ .vmem, ⟨15, _⟩ => ⟨S2048x8, .f32⟩
  | .local _ .vmem, ⟨16, _⟩ => ⟨S1x2048, .f32⟩
  | .local _ .smem, ⟨0, _⟩ => ⟨S1x1x3, .f32⟩
  | .local _ .smem, ⟨1, _⟩ => ⟨S1x1x3, .f32⟩
  | _, _ => ⟨S2x15x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_c_2 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_c_3 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v13 : Ref sig .tc := ⟨.hbm, 42, rfl⟩
abbrev main_c_1 : Ref sig .tc := ⟨.hbm, 43, rfl⟩
abbrev main_call1_v0 : Ref sig .tc := ⟨.hbm, 44, rfl⟩
abbrev main_v14 : Ref sig .tc := ⟨.hbm, 45, rfl⟩
abbrev main_c_2 : Ref sig .tc := ⟨.hbm, 46, rfl⟩
abbrev main_call2_v0 : Ref sig .tc := ⟨.hbm, 47, rfl⟩
abbrev main_v15 : Ref sig .tc := ⟨.hbm, 48, rfl⟩
abbrev main_c_3 : Ref sig .tc := ⟨.hbm, 49, rfl⟩
abbrev main_call3_v0 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def k0_off1 (arg12 : BitVec 32) : Fin 2 → Nat :=
  let v1020 : Index := Scalar.indexCast arg12
  let c0_251 : Index := 0#32
  ![v1020.toNat, 0]
def k0_cond1 (v1012 : BitVec 1) : BitVec 1 :=
  let v1013 : BitVec 32 := Scalar.extui v1012
  let c0_i32_245 : BitVec 32 := 0#32
  let v1014 : BitVec 1 := Scalar.cmpi .ne v1013 c0_i32_245
  v1014

def k0_chk1 (arg12 : BitVec 32) (v1012 : BitVec 1) : Prop :=
  (∀ (k0_h1 : k0_cond1 v1012 = 1#1), ∀ a, (k0_off1 arg12) a + S1x2048.size a ≤ S2048x2048.size a)
theorem k0_off1_inb : ∀ (arg12 : BitVec 32) (v1012 : BitVec 1) (k0_hw1 : k0_chk1 arg12 v1012), ∀ (k0_h1 : k0_cond1 v1012 = 1#1), ∀ a, (k0_off1 arg12) a + S1x2048.size a ≤ S2048x2048.size a := fun arg12 v1012 k0_hw1 k0_h1 => k0_hw1 k0_h1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x15x50x50 : Shape := ⟨4, ![2, 15, 50, 50]⟩
abbrev S2x60x50x50 : Shape := ⟨4, ![2, 60, 50, 50]⟩
abbrev S2x3 : Shape := ⟨2, ![2, 3]⟩
abbrev S37500x4 : Shape := ⟨2, ![37500, 4]⟩
abbrev S2x50x50x15 : Shape := ⟨4, ![2, 50, 50, 15]⟩
abbrev S2x37500 : Shape := ⟨2, ![2, 37500]⟩
abbrev S2x50x50x60 : Shape := ⟨4, ![2, 50, 50, 60]⟩
abbrev S2x37500x4 : Shape := ⟨3, ![2, 37500, 4]⟩
abbrev S2x2000 : Shape := ⟨2, ![2, 2000]⟩
abbrev S_ : Shape := ⟨0, ![]⟩
abbrev S2x2000x1 : Shape := ⟨3, ![2, 2000, 1]⟩
abbrev S2x2000x4 : Shape := ⟨3, ![2, 2000, 4]⟩
abbrev S1 : Shape := ⟨1, ![1]⟩
abbrev S1x1x1 : Shape := ⟨3, ![1, 1, 1]⟩
abbrev S2x1 : Shape := ⟨2, ![2, 1]⟩
abbrev S2000 : Shape := ⟨1, ![2000]⟩
abbrev S1x2000 : Shape := ⟨2, ![1, 2000]⟩
abbrev S1000 : Shape := ⟨1, ![1000]⟩
abbrev S2x1x2000 : Shape := ⟨3, ![2, 1, 2000]⟩
abbrev S1x1000x1 : Shape := ⟨3, ![1, 1000, 1]⟩
abbrev S2x1000x2000 : Shape := ⟨3, ![2, 1000, 2000]⟩
abbrev S2x1000 : Shape := ⟨2, ![2, 1000]⟩
abbrev S1x1000 : Shape := ⟨2, ![1, 1000]⟩
abbrev S2 : Shape := ⟨1, ![2]⟩
abbrev S2x2000x5 : Shape := ⟨3, ![2, 2000, 5]⟩
abbrev S2x1000x1 : Shape := ⟨3, ![2, 1000, 1]⟩
abbrev S2x1000x5 : Shape := ⟨3, ![2, 1000, 5]⟩
abbrev S2000x5 : Shape := ⟨2, ![2000, 5]⟩
abbrev S2000x1 : Shape := ⟨2, ![2000, 1]⟩

abbrev nBuf : Space → Nat
  | .hbm => 360
  | .vmem => 0
  | .smem => 0
  | _ => 0

abbrev hbmTy0_0 (i : Nat) : BufTy := match i % 128 with
  | 0 => ⟨S2x15x50x50, .f32⟩
  | 1 => ⟨S2x60x50x50, .f32⟩
  | 2 => ⟨S2x3, .f32⟩
  | 3 => ⟨S37500x4, .f32⟩
  | 4 => ⟨S2x50x50x15, .f32⟩
  | 5 => ⟨S2x37500, .f32⟩
  | 6 => ⟨S2x50x50x60, .f32⟩
  | 7 => ⟨S2x37500x4, .f32⟩
  | 8 => ⟨S2x2000, .f32⟩
  | 9 => ⟨S2x2000, .i32⟩
  | 10 => ⟨S_, .i32⟩
  | 11 => ⟨S2x2000, .i32⟩
  | 12 => ⟨S2x2000, .i1⟩
  | 13 => ⟨S_, .i32⟩
  | 14 => ⟨S2x2000, .i32⟩
  | 15 => ⟨S2x2000, .i32⟩
  | 16 => ⟨S2x2000, .i32⟩
  | 17 => ⟨S2x2000x1, .i32⟩
  | 18 => ⟨S2x2000x4, .f32⟩
  | 19 => ⟨S2x2000x1, .i32⟩
  | 20 => ⟨S_, .i32⟩
  | 21 => ⟨S2x2000x1, .i32⟩
  | 22 => ⟨S2x2000x1, .i1⟩
  | 23 => ⟨S_, .i32⟩
  | 24 => ⟨S2x2000x1, .i32⟩
  | 25 => ⟨S2x2000x1, .i32⟩
  | 26 => ⟨S2x2000x1, .i32⟩
  | 27 => ⟨S1, .i32⟩
  | 28 => ⟨S_, .i32⟩
  | 29 => ⟨S2x2000x1, .i32⟩
  | 30 => ⟨S2x2000x1, .i1⟩
  | 31 => ⟨S1x1x1, .i32⟩
  | 32 => ⟨S2x2000x1, .i32⟩
  | 33 => ⟨S2x2000x1, .i1⟩
  | 34 => ⟨S2x2000x1, .i1⟩
  | 35 => ⟨S_, .i1⟩
  | 36 => ⟨S2x2000, .i1⟩
  | 37 => ⟨S2x2000x4, .f32⟩
  | 38 => ⟨S2x2000x4, .i1⟩
  | 39 => ⟨S_, .f32⟩
  | 40 => ⟨S2x2000x4, .f32⟩
  | 41 => ⟨S2x2000x4, .f32⟩
  | 42 => ⟨S2x1, .f32⟩
  | 43 => ⟨S2x1, .f32⟩
  | 44 => ⟨S2x2000x1, .f32⟩
  | 45 => ⟨S2x2000, .f32⟩
  | 46 => ⟨S2x2000x1, .f32⟩
  | 47 => ⟨S2x2000, .f32⟩
  | 48 => ⟨S2x2000, .f32⟩
  | 49 => ⟨S_, .f32⟩
  | 50 => ⟨S2x2000, .f32⟩
  | 51 => ⟨S2x2000, .f32⟩
  | 52 => ⟨S2x2000x1, .f32⟩
  | 53 => ⟨S2x2000, .f32⟩
  | 54 => ⟨S2x2000x1, .f32⟩
  | 55 => ⟨S2x2000, .f32⟩
  | 56 => ⟨S2x2000, .f32⟩
  | 57 => ⟨S_, .f32⟩
  | 58 => ⟨S2x2000, .f32⟩
  | 59 => ⟨S2x2000, .f32⟩
  | 60 => ⟨S2x2000x1, .f32⟩
  | 61 => ⟨S2x2000, .f32⟩
  | 62 => ⟨S_, .f32⟩
  | 63 => ⟨S2x2000, .f32⟩
  | 64 => ⟨S2x2000, .f32⟩
  | 65 => ⟨S2x2000, .f32⟩
  | 66 => ⟨S2x2000x1, .f32⟩
  | 67 => ⟨S2x2000, .f32⟩
  | 68 => ⟨S_, .f32⟩
  | 69 => ⟨S2x2000, .f32⟩
  | 70 => ⟨S2x2000, .f32⟩
  | 71 => ⟨S2x2000, .f32⟩
  | 72 => ⟨S2x2000x1, .f32⟩
  | 73 => ⟨S2x2000, .f32⟩
  | 74 => ⟨S2x2000, .f32⟩
  | 75 => ⟨S2x2000, .f32⟩
  | 76 => ⟨S2x2000x1, .f32⟩
  | 77 => ⟨S2x2000, .f32⟩
  | 78 => ⟨S2x2000, .f32⟩
  | 79 => ⟨S2x2000, .f32⟩
  | 80 => ⟨S2x2000x1, .f32⟩
  | 81 => ⟨S2x2000, .f32⟩
  | 82 => ⟨S_, .f32⟩
  | 83 => ⟨S2x2000, .f32⟩
  | 84 => ⟨S2x2000, .f32⟩
  | 85 => ⟨S2x2000, .f32⟩
  | 86 => ⟨S2x2000, .f32⟩
  | 87 => ⟨S2x2000x1, .f32⟩
  | 88 => ⟨S2x2000, .f32⟩
  | 89 => ⟨S_, .f32⟩
  | 90 => ⟨S2x2000, .f32⟩
  | 91 => ⟨S2x2000, .f32⟩
  | 92 => ⟨S2x2000, .f32⟩
  | 93 => ⟨S2x2000, .f32⟩
  | 94 => ⟨S_, .f32⟩
  | 95 => ⟨S2x2000, .f32⟩
  | 96 => ⟨S2x2000, .f32⟩
  | 97 => ⟨S2x2000, .f32⟩
  | 98 => ⟨S_, .f32⟩
  | 99 => ⟨S2x1, .f32⟩
  | 100 => ⟨S2x1, .f32⟩
  | 101 => ⟨S_, .f32⟩
  | 102 => ⟨S_, .f32⟩
  | 103 => ⟨S2x2000, .f32⟩
  | 104 => ⟨S2x2000, .f32⟩
  | 105 => ⟨S2x2000, .f32⟩
  | 106 => ⟨S2x2000, .f32⟩
  | 107 => ⟨S_, .f32⟩
  | 108 => ⟨S2x2000, .f32⟩
  | 109 => ⟨S2x2000, .f32⟩
  | 110 => ⟨S2x2000, .f32⟩
  | 111 => ⟨S_, .f32⟩
  | 112 => ⟨S2x1, .f32⟩
  | 113 => ⟨S2x1, .f32⟩
  | 114 => ⟨S_, .f32⟩
  | 115 => ⟨S_, .f32⟩
  | 116 => ⟨S2x2000, .f32⟩
  | 117 => ⟨S2x2000, .f32⟩
  | 118 => ⟨S2x2000, .f32⟩
  | 119 => ⟨S2x2000, .f32⟩
  | 120 => ⟨S_, .f32⟩
  | 121 => ⟨S2x2000, .f32⟩
  | 122 => ⟨S2x2000, .f32⟩
  | 123 => ⟨S2x2000, .f32⟩
  | 124 => ⟨S_, .f32⟩
  | 125 => ⟨S2x2000, .f32⟩
  | 126 => ⟨S2x2000, .f32⟩
  | 127 => ⟨S_, .f32⟩
  | _ => ⟨S2x15x50x50, .f32⟩

abbrev hbmTy0_1 (i : Nat) : BufTy := match i % 128 with
  | 0 => ⟨S2x1, .f32⟩
  | 1 => ⟨S2x1, .f32⟩
  | 2 => ⟨S_, .f32⟩
  | 3 => ⟨S_, .f32⟩
  | 4 => ⟨S2x2000, .f32⟩
  | 5 => ⟨S2x2000, .f32⟩
  | 6 => ⟨S2x2000, .f32⟩
  | 7 => ⟨S2x2000, .f32⟩
  | 8 => ⟨S_, .f32⟩
  | 9 => ⟨S2x2000, .f32⟩
  | 10 => ⟨S2x2000, .f32⟩
  | 11 => ⟨S2x2000, .f32⟩
  | 12 => ⟨S_, .f32⟩
  | 13 => ⟨S2x2000, .f32⟩
  | 14 => ⟨S2x2000, .f32⟩
  | 15 => ⟨S_, .f32⟩
  | 16 => ⟨S2x1, .f32⟩
  | 17 => ⟨S2x1, .f32⟩
  | 18 => ⟨S_, .f32⟩
  | 19 => ⟨S_, .f32⟩
  | 20 => ⟨S2x2000, .f32⟩
  | 21 => ⟨S2x2000, .f32⟩
  | 22 => ⟨S2x2000, .f32⟩
  | 23 => ⟨S2x2000, .f32⟩
  | 24 => ⟨S2x1, .f32⟩
  | 25 => ⟨S_, .f32⟩
  | 26 => ⟨S2x1, .f32⟩
  | 27 => ⟨S2x1, .f32⟩
  | 28 => ⟨S2x2000, .f32⟩
  | 29 => ⟨S_, .f32⟩
  | 30 => ⟨S2x2000, .f32⟩
  | 31 => ⟨S2x2000, .f32⟩
  | 32 => ⟨S2x2000, .f32⟩
  | 33 => ⟨S_, .f32⟩
  | 34 => ⟨S2x2000, .f32⟩
  | 35 => ⟨S2x2000, .f32⟩
  | 36 => ⟨S2x2000, .f32⟩
  | 37 => ⟨S2x2000, .i1⟩
  | 38 => ⟨S2x2000, .f32⟩
  | 39 => ⟨S2x2000, .i1⟩
  | 40 => ⟨S2x2000, .i1⟩
  | 41 => ⟨S_, .f32⟩
  | 42 => ⟨S2x2000, .f32⟩
  | 43 => ⟨S2x2000, .f32⟩
  | 44 => ⟨S2x2000, .f32⟩
  | 45 => ⟨S2x2000, .f32⟩
  | 46 => ⟨S2x2000, .i1⟩
  | 47 => ⟨S2x2000, .i1⟩
  | 48 => ⟨S_, .f32⟩
  | 49 => ⟨S2x2000, .f32⟩
  | 50 => ⟨S2x2000, .f32⟩
  | 51 => ⟨S2x2000, .f32⟩
  | 52 => ⟨S2x2000, .f32⟩
  | 53 => ⟨S2x2000, .i1⟩
  | 54 => ⟨S2x2000, .i1⟩
  | 55 => ⟨S2x2000, .f32⟩
  | 56 => ⟨S2000, .i32⟩
  | 57 => ⟨S2x2000, .i1⟩
  | 58 => ⟨S_, .i1⟩
  | 59 => ⟨S2x2000, .i1⟩
  | 60 => ⟨S_, .i32⟩
  | 61 => ⟨S_, .i32⟩
  | 62 => ⟨S2x2000, .f32⟩
  | 63 => ⟨S2x2000, .f32⟩
  | 64 => ⟨S2x2000, .f32⟩
  | 65 => ⟨S2x2000, .f32⟩
  | 66 => ⟨S2x2000, .f32⟩
  | 67 => ⟨S2000, .i32⟩
  | 68 => ⟨S_, .i32⟩
  | 69 => ⟨S_, .i32⟩
  | 70 => ⟨S2x2000, .i1⟩
  | 71 => ⟨S2x2000, .i1⟩
  | 72 => ⟨S_, .i32⟩
  | 73 => ⟨S_, .i1⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S2x1, .i1⟩
  | 84 => ⟨S2x1, .i1⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S2x2000, .i1⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S2x1, .f32⟩
  | 101 => ⟨S2x2000, .f32⟩
  | 102 => ⟨S2x2000, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S2x1, .f32⟩
  | 111 => ⟨S2x2000, .f32⟩
  | 112 => ⟨S2x2000, .f32⟩
  | 113 => ⟨S2x2000, .f32⟩
  | 114 => ⟨S_, .f32⟩
  | 115 => ⟨S2x2000, .f32⟩
  | 116 => ⟨S2x2000, .f32⟩
  | 117 => ⟨S_, .f32⟩
  | 118 => ⟨S2x2000, .f32⟩
  | 119 => ⟨S2x2000, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S2x1, .f32⟩
  | _ => ⟨S2x15x50x50, .f32⟩

abbrev hbmTy0_2 (i : Nat) : BufTy := match i % 128 with
  | 0 => ⟨S2x2000, .f32⟩
  | 1 => ⟨S2x2000, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S2x1, .f32⟩
  | 10 => ⟨S2x2000, .f32⟩
  | 11 => ⟨S2x2000, .f32⟩
  | 12 => ⟨S2x2000, .f32⟩
  | 13 => ⟨S_, .f32⟩
  | 14 => ⟨S2x2000, .f32⟩
  | 15 => ⟨S2x2000, .f32⟩
  | 16 => ⟨S_, .f32⟩
  | 17 => ⟨S2x2000, .f32⟩
  | 18 => ⟨S2x2000, .f32⟩
  | 19 => ⟨S2x2000, .f32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S2x1, .f32⟩
  | 28 => ⟨S2x2000, .f32⟩
  | 29 => ⟨S2x2000, .f32⟩
  | 30 => ⟨S2x2000, .f32⟩
  | 31 => ⟨S2x2000, .f32⟩
  | 32 => ⟨S_, .f32⟩
  | 33 => ⟨S2x2000, .f32⟩
  | 34 => ⟨S2x2000, .i1⟩
  | 35 => ⟨S_, .i32⟩
  | 36 => ⟨S2000, .i32⟩
  | 37 => ⟨S2000, .i1⟩
  | 38 => ⟨S1x2000, .i1⟩
  | 39 => ⟨S2x2000, .i1⟩
  | 40 => ⟨S2x2000, .i1⟩
  | 41 => ⟨S2x2000, .i1⟩
  | 42 => ⟨S2x2000, .i1⟩
  | 43 => ⟨S2x2000, .i1⟩
  | 44 => ⟨S_, .i32⟩
  | 45 => ⟨S_, .i32⟩
  | 46 => ⟨S1000, .i32⟩
  | 47 => ⟨S2x2000, .i32⟩
  | 48 => ⟨S_, .i32⟩
  | 49 => ⟨S_, .i32⟩
  | 50 => ⟨S2x2000, .i32⟩
  | 51 => ⟨S2x1x2000, .i32⟩
  | 52 => ⟨S1x1000x1, .i32⟩
  | 53 => ⟨S2x1000x2000, .i32⟩
  | 54 => ⟨S2x1000x2000, .i32⟩
  | 55 => ⟨S2x1000x2000, .i1⟩
  | 56 => ⟨S2x1000x2000, .i32⟩
  | 57 => ⟨S_, .i32⟩
  | 58 => ⟨S2x1000, .i32⟩
  | 59 => ⟨S1x1000, .i32⟩
  | 60 => ⟨S2x1, .i32⟩
  | 61 => ⟨S2x1000, .i32⟩
  | 62 => ⟨S2x1000, .i32⟩
  | 63 => ⟨S2x1000, .i1⟩
  | 64 => ⟨S2, .i32⟩
  | 65 => ⟨S2x1, .i32⟩
  | 66 => ⟨S2x1, .f32⟩
  | 67 => ⟨S2x2000, .f32⟩
  | 68 => ⟨S2x2000x1, .f32⟩
  | 69 => ⟨S2x2000x1, .f32⟩
  | 70 => ⟨S2x2000x1, .f32⟩
  | 71 => ⟨S2x2000x1, .f32⟩
  | 72 => ⟨S2x2000x1, .f32⟩
  | 73 => ⟨S2x2000x5, .f32⟩
  | 74 => ⟨S2x1000x1, .i1⟩
  | 75 => ⟨S2x1000x1, .i32⟩
  | 76 => ⟨S_, .i32⟩
  | 77 => ⟨S2x1000x1, .i32⟩
  | 78 => ⟨S2x1000x1, .i1⟩
  | 79 => ⟨S_, .i32⟩
  | 80 => ⟨S2x1000x1, .i32⟩
  | 81 => ⟨S2x1000x1, .i32⟩
  | 82 => ⟨S2x1000x1, .i32⟩
  | 83 => ⟨S2x1000x5, .f32⟩
  | 84 => ⟨S_, .f32⟩
  | 85 => ⟨S_, .f32⟩
  | 86 => ⟨S2x1000x5, .i1⟩
  | 87 => ⟨S2x1000x5, .f32⟩
  | 88 => ⟨S2x1000x5, .f32⟩
  | 89 => ⟨S_, .i32⟩
  | 90 => ⟨S2x1000, .i32⟩
  | 91 => ⟨S2x1000, .i1⟩
  | 92 => ⟨S_, .i32⟩
  | 93 => ⟨S2x1000, .i32⟩
  | 94 => ⟨S2x1000, .i32⟩
  | 95 => ⟨S2x1000, .i32⟩
  | 96 => ⟨S2x1000x1, .i32⟩
  | 97 => ⟨S2x1000, .f32⟩
  | 98 => ⟨S_, .f32⟩
  | 99 => ⟨S_, .f32⟩
  | 100 => ⟨S2x1000, .f32⟩
  | 101 => ⟨S2x1000, .f32⟩
  | 102 => ⟨S2000x5, .f32⟩
  | 103 => ⟨S2000x1, .f32⟩
  | _ => ⟨S2x15x50x50, .f32⟩

abbrev hbmTy (i : Nat) : BufTy := match i / 128 with
  | 0 => hbmTy0_0 i
  | 1 => hbmTy0_1 i
  | 2 => hbmTy0_2 i
  | _ => ⟨S2x15x50x50, .f32⟩

abbrev bufTy : (tb : Table) → Fin (tcTables nBuf tb) → BufTy
  | .hbm, ⟨i, _⟩ => hbmTy i
  | _, _ => ⟨S2x15x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_values : Ref sig .tc := ⟨.hbm, 8, rfl⟩
abbrev main_indices : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_c_2 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_c_3 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_1 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_3 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_4 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_6 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_7 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_8 : Ref sig .tc := ⟨.hbm, 98, rfl⟩
abbrev main_v62 : Ref sig .tc := ⟨.hbm, 99, rfl⟩
abbrev main_v63 : Ref sig .tc := ⟨.hbm, 100, rfl⟩
abbrev main_cst_9 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_v64 : Ref sig .tc := ⟨.hbm, 106, rfl⟩
abbrev main_cst_10 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_11 : Ref sig .tc := ⟨.hbm, 111, rfl⟩
abbrev main_v68 : Ref sig .tc := ⟨.hbm, 112, rfl⟩
abbrev main_v69 : Ref sig .tc := ⟨.hbm, 113, rfl⟩
abbrev main_cst_12 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_v70 : Ref sig .tc := ⟨.hbm, 119, rfl⟩
abbrev main_cst_13 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_14 : Ref sig .tc := ⟨.hbm, 124, rfl⟩
abbrev main_v74 : Ref sig .tc := ⟨.hbm, 125, rfl⟩
abbrev main_v75 : Ref sig .tc := ⟨.hbm, 126, rfl⟩
abbrev main_cst_15 : Ref sig .tc := ⟨.hbm, 127, rfl⟩
abbrev main_v76 : Ref sig .tc := ⟨.hbm, 128, rfl⟩
abbrev main_v77 : Ref sig .tc := ⟨.hbm, 129, rfl⟩
abbrev main_cst_16 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_v78 : Ref sig .tc := ⟨.hbm, 135, rfl⟩
abbrev main_cst_17 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_18 : Ref sig .tc := ⟨.hbm, 140, rfl⟩
abbrev main_v82 : Ref sig .tc := ⟨.hbm, 141, rfl⟩
abbrev main_v83 : Ref sig .tc := ⟨.hbm, 142, rfl⟩
abbrev main_cst_19 : Ref sig .tc := ⟨.hbm, 143, rfl⟩
abbrev main_v84 : Ref sig .tc := ⟨.hbm, 144, rfl⟩
abbrev main_v85 : Ref sig .tc := ⟨.hbm, 145, rfl⟩
abbrev main_cst_20 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_v86 : Ref sig .tc := ⟨.hbm, 151, rfl⟩
abbrev main_v87 : Ref sig .tc := ⟨.hbm, 152, rfl⟩
abbrev main_cst_21 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_22 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_23 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_cst_24 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_cst_25 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_c_26 : Ref sig .tc := ⟨.hbm, 186, rfl⟩
abbrev main_v116 : Ref sig .tc := ⟨.hbm, 187, rfl⟩
abbrev main_c_27 : Ref sig .tc := ⟨.hbm, 188, rfl⟩
abbrev main_c_28 : Ref sig .tc := ⟨.hbm, 189, rfl⟩
abbrev main_v117_0 : Ref sig .tc := ⟨.hbm, 190, rfl⟩
abbrev main_v117_1 : Ref sig .tc := ⟨.hbm, 191, rfl⟩
abbrev main_v117_2 : Ref sig .tc := ⟨.hbm, 192, rfl⟩
abbrev main_v117_3 : Ref sig .tc := ⟨.hbm, 193, rfl⟩
abbrev main_v117_4 : Ref sig .tc := ⟨.hbm, 194, rfl⟩
abbrev main_v117_5 : Ref sig .tc := ⟨.hbm, 195, rfl⟩
abbrev main_v117_6 : Ref sig .tc := ⟨.hbm, 196, rfl⟩
abbrev main_v117_7 : Ref sig .tc := ⟨.hbm, 197, rfl⟩
abbrev main_v117_8 : Ref sig .tc := ⟨.hbm, 198, rfl⟩
abbrev main_v117_9 : Ref sig .tc := ⟨.hbm, 199, rfl⟩
abbrev main_while0c_c_41 : Ref sig .tc := ⟨.hbm, 200, rfl⟩
abbrev main_while0c_v151 : Ref sig .tc := ⟨.hbm, 201, rfl⟩
abbrev main_while0b_c_41 : Ref sig .tc := ⟨.hbm, 202, rfl⟩
abbrev main_while0b_v151 : Ref sig .tc := ⟨.hbm, 203, rfl⟩
abbrev main_while0b_c_42 : Ref sig .tc := ⟨.hbm, 204, rfl⟩
abbrev main_while0b_v152 : Ref sig .tc := ⟨.hbm, 205, rfl⟩
abbrev main_while0b_v153 : Ref sig .tc := ⟨.hbm, 206, rfl⟩
abbrev main_while0b_c_43 : Ref sig .tc := ⟨.hbm, 207, rfl⟩
abbrev main_while0b_v154 : Ref sig .tc := ⟨.hbm, 208, rfl⟩
abbrev main_while0b_v155 : Ref sig .tc := ⟨.hbm, 209, rfl⟩
abbrev main_while0b_c_44 : Ref sig .tc := ⟨.hbm, 210, rfl⟩
abbrev main_while0b_v156 : Ref sig .tc := ⟨.hbm, 211, rfl⟩
abbrev main_while0b_v157 : Ref sig .tc := ⟨.hbm, 212, rfl⟩
abbrev main_while0b_c_45 : Ref sig .tc := ⟨.hbm, 213, rfl⟩
abbrev main_while0b_v158 : Ref sig .tc := ⟨.hbm, 214, rfl⟩
abbrev main_while0b_v159 : Ref sig .tc := ⟨.hbm, 215, rfl⟩
abbrev main_while0b_c_46 : Ref sig .tc := ⟨.hbm, 216, rfl⟩
abbrev main_while0b_v160 : Ref sig .tc := ⟨.hbm, 217, rfl⟩
abbrev main_while0b_v161 : Ref sig .tc := ⟨.hbm, 218, rfl⟩
abbrev main_while0b_c_47 : Ref sig .tc := ⟨.hbm, 219, rfl⟩
abbrev main_while0b_v162 : Ref sig .tc := ⟨.hbm, 220, rfl⟩
abbrev main_while0b_c_48 : Ref sig .tc := ⟨.hbm, 221, rfl⟩
abbrev main_while0b_v163 : Ref sig .tc := ⟨.hbm, 222, rfl⟩
abbrev main_while0b_v164 : Ref sig .tc := ⟨.hbm, 223, rfl⟩
abbrev main_while0b_c_49 : Ref sig .tc := ⟨.hbm, 224, rfl⟩
abbrev main_while0b_v165 : Ref sig .tc := ⟨.hbm, 225, rfl⟩
abbrev main_while0b_v166 : Ref sig .tc := ⟨.hbm, 226, rfl⟩
abbrev main_while0b_c_50 : Ref sig .tc := ⟨.hbm, 227, rfl⟩
abbrev main_while0b_v167 : Ref sig .tc := ⟨.hbm, 228, rfl⟩
abbrev main_while0b_v168 : Ref sig .tc := ⟨.hbm, 229, rfl⟩
abbrev main_while0b_v169 : Ref sig .tc := ⟨.hbm, 230, rfl⟩
abbrev main_while0b_c_51 : Ref sig .tc := ⟨.hbm, 231, rfl⟩
abbrev main_while0b_v170 : Ref sig .tc := ⟨.hbm, 232, rfl⟩
abbrev main_while0b_v171 : Ref sig .tc := ⟨.hbm, 233, rfl⟩
abbrev main_while0b_c_52 : Ref sig .tc := ⟨.hbm, 234, rfl⟩
abbrev main_while0b_v172 : Ref sig .tc := ⟨.hbm, 235, rfl⟩
abbrev main_while0b_v173 : Ref sig .tc := ⟨.hbm, 236, rfl⟩
abbrev main_while0b_c_53 : Ref sig .tc := ⟨.hbm, 237, rfl⟩
abbrev main_while0b_v174 : Ref sig .tc := ⟨.hbm, 238, rfl⟩
abbrev main_while0b_v175 : Ref sig .tc := ⟨.hbm, 239, rfl⟩
abbrev main_while0b_v176 : Ref sig .tc := ⟨.hbm, 240, rfl⟩
abbrev main_while0b_v177 : Ref sig .tc := ⟨.hbm, 241, rfl⟩
abbrev main_while0b_cst_54 : Ref sig .tc := ⟨.hbm, 242, rfl⟩
abbrev main_while0b_v178 : Ref sig .tc := ⟨.hbm, 243, rfl⟩
abbrev main_while0b_v179 : Ref sig .tc := ⟨.hbm, 244, rfl⟩
abbrev main_while0b_cst_55 : Ref sig .tc := ⟨.hbm, 245, rfl⟩
abbrev main_while0b_v180 : Ref sig .tc := ⟨.hbm, 246, rfl⟩
abbrev main_while0b_v181 : Ref sig .tc := ⟨.hbm, 247, rfl⟩
abbrev main_while0b_c_56 : Ref sig .tc := ⟨.hbm, 248, rfl⟩
abbrev main_while0b_v182 : Ref sig .tc := ⟨.hbm, 249, rfl⟩
abbrev main_while0b_v183 : Ref sig .tc := ⟨.hbm, 250, rfl⟩
abbrev main_while0b_c_57 : Ref sig .tc := ⟨.hbm, 251, rfl⟩
abbrev main_while0b_v184 : Ref sig .tc := ⟨.hbm, 252, rfl⟩
abbrev main_while0b_v185 : Ref sig .tc := ⟨.hbm, 253, rfl⟩
abbrev main_while0b_c_58 : Ref sig .tc := ⟨.hbm, 254, rfl⟩
abbrev main_while0b_v186 : Ref sig .tc := ⟨.hbm, 255, rfl⟩
abbrev main_while0b_v187 : Ref sig .tc := ⟨.hbm, 256, rfl⟩
abbrev main_while0b_v188 : Ref sig .tc := ⟨.hbm, 257, rfl⟩
abbrev main_while0b_c_59 : Ref sig .tc := ⟨.hbm, 258, rfl⟩
abbrev main_while0b_v189 : Ref sig .tc := ⟨.hbm, 259, rfl⟩
abbrev main_while0b_v190 : Ref sig .tc := ⟨.hbm, 260, rfl⟩
abbrev main_while0b_c_60 : Ref sig .tc := ⟨.hbm, 261, rfl⟩
abbrev main_while0b_v191 : Ref sig .tc := ⟨.hbm, 262, rfl⟩
abbrev main_while0b_v192 : Ref sig .tc := ⟨.hbm, 263, rfl⟩
abbrev main_while0b_c_61 : Ref sig .tc := ⟨.hbm, 264, rfl⟩
abbrev main_while0b_v193 : Ref sig .tc := ⟨.hbm, 265, rfl⟩
abbrev main_while0b_v194 : Ref sig .tc := ⟨.hbm, 266, rfl⟩
abbrev main_while0b_v195 : Ref sig .tc := ⟨.hbm, 267, rfl⟩
abbrev main_while0b_v196 : Ref sig .tc := ⟨.hbm, 268, rfl⟩
abbrev main_while0b_cst_62 : Ref sig .tc := ⟨.hbm, 269, rfl⟩
abbrev main_while0b_v197 : Ref sig .tc := ⟨.hbm, 270, rfl⟩
abbrev main_while0b_v198 : Ref sig .tc := ⟨.hbm, 271, rfl⟩
abbrev main_while0b_cst_63 : Ref sig .tc := ⟨.hbm, 272, rfl⟩
abbrev main_while0b_v199 : Ref sig .tc := ⟨.hbm, 273, rfl⟩
abbrev main_while0b_v200 : Ref sig .tc := ⟨.hbm, 274, rfl⟩
abbrev main_while0b_v201 : Ref sig .tc := ⟨.hbm, 275, rfl⟩
abbrev main_while0b_c_64 : Ref sig .tc := ⟨.hbm, 276, rfl⟩
abbrev main_while0b_v202 : Ref sig .tc := ⟨.hbm, 277, rfl⟩
abbrev main_while0b_v203 : Ref sig .tc := ⟨.hbm, 278, rfl⟩
abbrev main_while0b_c_65 : Ref sig .tc := ⟨.hbm, 279, rfl⟩
abbrev main_while0b_v204 : Ref sig .tc := ⟨.hbm, 280, rfl⟩
abbrev main_while0b_v205 : Ref sig .tc := ⟨.hbm, 281, rfl⟩
abbrev main_while0b_c_66 : Ref sig .tc := ⟨.hbm, 282, rfl⟩
abbrev main_while0b_v206 : Ref sig .tc := ⟨.hbm, 283, rfl⟩
abbrev main_while0b_v207 : Ref sig .tc := ⟨.hbm, 284, rfl⟩
abbrev main_while0b_v208 : Ref sig .tc := ⟨.hbm, 285, rfl⟩
abbrev main_while0b_v209 : Ref sig .tc := ⟨.hbm, 286, rfl⟩
abbrev main_while0b_v210 : Ref sig .tc := ⟨.hbm, 287, rfl⟩
abbrev main_while0b_cst_67 : Ref sig .tc := ⟨.hbm, 288, rfl⟩
abbrev main_while0b_v211 : Ref sig .tc := ⟨.hbm, 289, rfl⟩
abbrev main_while0b_v212 : Ref sig .tc := ⟨.hbm, 290, rfl⟩
abbrev main_while0b_v213 : Ref sig .tc := ⟨.hbm, 291, rfl⟩
abbrev main_while0b_v214 : Ref sig .tc := ⟨.hbm, 292, rfl⟩
abbrev main_while0b_v215 : Ref sig .tc := ⟨.hbm, 293, rfl⟩
abbrev main_while0b_v216 : Ref sig .tc := ⟨.hbm, 294, rfl⟩
abbrev main_while0b_v217 : Ref sig .tc := ⟨.hbm, 295, rfl⟩
abbrev main_while0b_v218 : Ref sig .tc := ⟨.hbm, 296, rfl⟩
abbrev main_while0b_v219 : Ref sig .tc := ⟨.hbm, 297, rfl⟩
abbrev main_while0b_v220 : Ref sig .tc := ⟨.hbm, 298, rfl⟩
abbrev main_while0b_v221 : Ref sig .tc := ⟨.hbm, 299, rfl⟩
abbrev main_while0b_c_68 : Ref sig .tc := ⟨.hbm, 300, rfl⟩
abbrev main_while0b_v222 : Ref sig .tc := ⟨.hbm, 301, rfl⟩
abbrev main_v118 : Ref sig .tc := ⟨.hbm, 302, rfl⟩
abbrev main_v119 : Ref sig .tc := ⟨.hbm, 303, rfl⟩
abbrev main_call5_call0_c : Ref sig .tc := ⟨.hbm, 304, rfl⟩
abbrev main_call5_call0_v0 : Ref sig .tc := ⟨.hbm, 305, rfl⟩
abbrev main_v120 : Ref sig .tc := ⟨.hbm, 306, rfl⟩
abbrev main_v121 : Ref sig .tc := ⟨.hbm, 307, rfl⟩
abbrev main_v122 : Ref sig .tc := ⟨.hbm, 308, rfl⟩
abbrev main_v123 : Ref sig .tc := ⟨.hbm, 309, rfl⟩
abbrev main_v124 : Ref sig .tc := ⟨.hbm, 310, rfl⟩
abbrev main_v125 : Ref sig .tc := ⟨.hbm, 311, rfl⟩
abbrev main_v126 : Ref sig .tc := ⟨.hbm, 312, rfl⟩
abbrev main_c_29 : Ref sig .tc := ⟨.hbm, 313, rfl⟩
abbrev main_v127 : Ref sig .tc := ⟨.hbm, 314, rfl⟩
abbrev main_v128 : Ref sig .tc := ⟨.hbm, 315, rfl⟩
abbrev main_v129 : Ref sig .tc := ⟨.hbm, 316, rfl⟩
abbrev main_v130 : Ref sig .tc := ⟨.hbm, 317, rfl⟩
abbrev main_v131 : Ref sig .tc := ⟨.hbm, 318, rfl⟩
abbrev main_v132 : Ref sig .tc := ⟨.hbm, 319, rfl⟩
abbrev main_v133 : Ref sig .tc := ⟨.hbm, 320, rfl⟩
abbrev main_v134 : Ref sig .tc := ⟨.hbm, 321, rfl⟩
abbrev main_v135 : Ref sig .tc := ⟨.hbm, 322, rfl⟩
abbrev main_v136 : Ref sig .tc := ⟨.hbm, 323, rfl⟩
abbrev main_v137 : Ref sig .tc := ⟨.hbm, 324, rfl⟩
abbrev main_v138 : Ref sig .tc := ⟨.hbm, 325, rfl⟩
abbrev main_v139 : Ref sig .tc := ⟨.hbm, 326, rfl⟩
abbrev main_v140 : Ref sig .tc := ⟨.hbm, 327, rfl⟩
abbrev main_v141 : Ref sig .tc := ⟨.hbm, 328, rfl⟩
abbrev main_v142 : Ref sig .tc := ⟨.hbm, 329, rfl⟩
abbrev main_v143 : Ref sig .tc := ⟨.hbm, 330, rfl⟩
abbrev main_v144 : Ref sig .tc := ⟨.hbm, 331, rfl⟩
abbrev main_call6_c : Ref sig .tc := ⟨.hbm, 332, rfl⟩
abbrev main_call6_v0 : Ref sig .tc := ⟨.hbm, 333, rfl⟩
abbrev main_call6_v1 : Ref sig .tc := ⟨.hbm, 334, rfl⟩
abbrev main_call6_c_0 : Ref sig .tc := ⟨.hbm, 335, rfl⟩
abbrev main_call6_v2 : Ref sig .tc := ⟨.hbm, 336, rfl⟩
abbrev main_call6_v3 : Ref sig .tc := ⟨.hbm, 337, rfl⟩
abbrev main_call6_v4 : Ref sig .tc := ⟨.hbm, 338, rfl⟩
abbrev main_v145 : Ref sig .tc := ⟨.hbm, 339, rfl⟩
abbrev main_cst_30 : Ref sig .tc := ⟨.hbm, 340, rfl⟩
abbrev main_call7_v0 : Ref sig .tc := ⟨.hbm, 341, rfl⟩
abbrev main_call7_v1 : Ref sig .tc := ⟨.hbm, 342, rfl⟩
abbrev main_call7_v2 : Ref sig .tc := ⟨.hbm, 343, rfl⟩
abbrev main_v146 : Ref sig .tc := ⟨.hbm, 344, rfl⟩
abbrev main_call8_c : Ref sig .tc := ⟨.hbm, 345, rfl⟩
abbrev main_call8_v0 : Ref sig .tc := ⟨.hbm, 346, rfl⟩
abbrev main_call8_v1 : Ref sig .tc := ⟨.hbm, 347, rfl⟩
abbrev main_call8_c_0 : Ref sig .tc := ⟨.hbm, 348, rfl⟩
abbrev main_call8_v2 : Ref sig .tc := ⟨.hbm, 349, rfl⟩
abbrev main_call8_v3 : Ref sig .tc := ⟨.hbm, 350, rfl⟩
abbrev main_call8_v4 : Ref sig .tc := ⟨.hbm, 351, rfl⟩
abbrev main_call8_v5 : Ref sig .tc := ⟨.hbm, 352, rfl⟩
abbrev main_v147 : Ref sig .tc := ⟨.hbm, 353, rfl⟩
abbrev main_cst_31 : Ref sig .tc := ⟨.hbm, 354, rfl⟩
abbrev main_call9_v0 : Ref sig .tc := ⟨.hbm, 355, rfl⟩
abbrev main_call9_v1 : Ref sig .tc := ⟨.hbm, 356, rfl⟩
abbrev main_v148 : Ref sig .tc := ⟨.hbm, 357, rfl⟩
abbrev main_v149 : Ref sig .tc := ⟨.hbm, 358, rfl⟩
abbrev main_v150 : Ref sig .tc := ⟨.hbm, 359, rfl⟩

abbrev nD : Nat := 1
abbrev τ : Topo := Topo.v7x

variable {F : FTy → Type} [FloatOps F]

abbrev main_while0_count : Scf.Loop 32 := ⟨0#32, 2000#32, 1#32⟩
-- ==== Proof.KernelIdeal.Common.lean ====
/-
  What the kernel's run shares: the contents the region finds (`V0`), the shape of @main around the region (`hmain`), the
  facts about the lines after the region, the windows' blocks (`iblk`), the argument arrays read at the end (`frame_of`),
  and the staging and scratch memrefs as the body is handed them.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.StableHlo.Run
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev pres : List (List (HloOp τ sig (Elt F))) :=
  [hostOps0, hostOps0_1, hostOps0_2, hostOps0_3, hostOps0_4, hostOps0_5, hostOps0_6, hostOps0_7, hostOps0_8]

/-- A core's buffer contents when the region is entered: the launch contents after the host operations before it. -/
abbrev V0 (c : Dev nD) : Valuation τ sig (Elt F) := StableHlo.after (List.flatten pres) (fun b => m (c, b))
/-- The same read at a TensorCore reference. -/
abbrev V (c : Dev nD) (b : Ref sig .tc) : Buf (Elt F) ((c : Thread nD τ).loc b) := V0 m c (Proc.devRef .tc b)

/-- The buffers the host operations before the region write, in order. -/
abbrev preW : List (Ref sig .tc) :=
  [main_cst, main_v0, main_v1, main_v2, main_v3, main_v4, main_values, main_indices, main_c, main_v5, main_v6, main_c_0, main_v7,
   main_v8, main_v9, main_v10, main_v11, main_v12, main_call0_c, main_call0_v0, main_call0_v1, main_call0_c_0, main_call0_v2,
   main_call0_v3, main_call0_v4, main_call0_c_1, main_call0_c_2, main_call0_v5, main_call0_v6, main_call0_v7, main_call0_v8,
   main_call0_v9, main_call0_v10, main_call0_c_3, main_call0_v11, main_call0_v12, main_call0_v13, main_call0_cst, main_call0_v14,
   main_v13, main_c_1, main_call1_v0, main_v14, main_c_2, main_call2_v0, main_v15, main_c_3, main_call3_v0, main_v16, main_v17,
   main_v18, main_v19, main_v20, main_v21]

theorem pre_writes : (List.flatten pres : List (HloOp τ sig (Elt F))).Forall
    fun op => op.writes ⊆ (preW.map (Proc.devRef (τ := τ) .tc)).toFinset :=
  StableHlo.forall_writes_sub_of_map rfl

/-- A buffer that no host operation before the region writes is found as launched. -/
theorem V_of (c : Dev nD) (b : Ref sig .tc) (hb : b ∉ preW) : V m c b = m ((c : Thread nD τ).loc b) :=
  StableHlo.after_of_writes_sub _ _ pre_writes hb

/-- The host operations before the region allocate nothing; neither do those after it. -/
theorem pres_fresh : (pres : List (List (HloOp τ sig (Elt F)))).Forall fun ops => ops.Forall fun op => op.fresh = ∅ :=
  ⟨StableHlo.forall_fresh_of_map rfl, StableHlo.forall_fresh_of_map rfl, StableHlo.forall_fresh_of_map rfl,
   StableHlo.forall_fresh_of_map rfl, StableHlo.forall_fresh_of_map rfl, StableHlo.forall_fresh_of_map rfl,
   StableHlo.forall_fresh_of_map rfl, StableHlo.forall_fresh_of_map rfl, StableHlo.forall_fresh_of_map rfl⟩
theorem post_fresh : (hostOps1 : List (HloOp τ sig (Elt F))).Forall fun op => op.fresh = ∅ :=
  StableHlo.forall_fresh_of_map rfl

set_option maxHeartbeats 800000 in
/-- @main around the region: the host operations before it, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main pres [hostOps1]
    ⟨hostOps0_sub, hostOps0_1_sub, hostOps0_2_sub, hostOps0_3_sub, hostOps0_4_sub, hostOps0_5_sub, hostOps0_6_sub, hostOps0_7_sub, hostOps0_8_sub⟩
    pres_fresh main_chain

/-- The operations after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  obtain rfl := List.mem_singleton.mp hops
  exact Pipeline.sub_ucRefs op ((List.forall_iff_forall_mem.mp (hostOps1_sub (F := F))) op hop)
/-- allocate nothing, -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp (post_fresh (F := F))) op hop
/-- write only these buffers, -/
theorem post_writes : (hostOps1 : List (HloOp τ sig (Elt F))).Forall
    fun op => op.writes ⊆ (([main_v23, main_v24, main_v25, main_v26] : List (Ref sig .tc)).map (Proc.devRef (τ := τ) .tc)).toFinset :=
  StableHlo.forall_writes_sub_of_map rfl
/-- and none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  obtain rfl := List.mem_singleton.mp hops
  obtain ⟨y, hy, he⟩ := List.mem_map.mp (List.mem_toFinset.mp ((List.forall_iff_forall_mem.mp (post_writes (F := F))) op hop hw))
  have := Proc.devRef_injective _ he
  subst this
  revert hy
  exact (by decide : ∀ w, Pipeline.arrRef spec0 w ∉ ([main_v23, main_v24, main_v25, main_v26] : List (Ref sig .tc))) w

/-- A buffer that neither the host operations nor the region write ends as launched. -/
theorem W_of (dats : (p : Fin _) → (c : Dev nD) → Dat τ (Elt F) Unit ℕ (UR sig nD τ) ℕ (cfgs (F := F) p) c) (c : Dev nD) (b : Ref sig .tc)
    (h₁ : b ∉ ([main_v23, main_v24, main_v25, main_v26] : List (Ref sig .tc))) (h₂ : ∀ w, Pipeline.arrRef spec0 w ≠ b) (h₃ : b ∉ preW) :
    Pipeline.afterTail₀ cfgs dats 0 (V0 m) [hostOps1] c b = m ((c : Thread nD τ).loc b) := by
  unfold Pipeline.afterTail₀
  refine (StableHlo.after_of_writes_sub _ _ post_writes h₁).trans ?_
  rw [Pipeline.withArrays_of_ne _ c (V0 m c) _ b h₂]
  exact V_of m c b h₃

/-! ## The windows' blocks -/

/-- A window's block at a point, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## The argument arrays at the end -/

/-- For any proof data whose arrays are the region-entry contents, the region's run leaves the three argument arrays as
    launched. -/
theorem frame_of (dats : (p : Fin 1) → (c : Dev nD) → Dat τ (Elt F) Unit ℕ (UR sig nD τ) ℕ (cfgs (F := F) p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by exact (by decide : ∀ w, Pipeline.arrRef spec0 w ≠ main_arg0)))).trans (W_of m dats c main_arg0 (by decide) (by exact (by decide : ∀ w, Pipeline.arrRef spec0 w ≠ main_arg0)) (by decide)),
     ((h c).2 main_arg1 (Pipeline.mem_restRefs_of main_arg1 (by decide) (by exact (by decide : ∀ w, Pipeline.arrRef spec0 w ≠ main_arg1)))).trans (W_of m dats c main_arg1 (by decide) (by exact (by decide : ∀ w, Pipeline.arrRef spec0 w ≠ main_arg1)) (by decide)),
     ((h c).2 main_arg2 (Pipeline.mem_restRefs_of main_arg2 (by decide) (by exact (by decide : ∀ w, Pipeline.arrRef spec0 w ≠ main_arg2)))).trans (W_of m dats c main_arg2 (by decide) (by exact (by decide : ∀ w, Pipeline.arrRef spec0 w ≠ main_arg2)) (by decide))⟩) h

/-! ## The staging and scratch memrefs -/

/-- A scratch operand: the overlap matrix, the packed columns, the suppression row. -/
abbrev scMask : Memref sig .tc .vmem S2048x2048 .f32 := Memref.whole cc0_scratch0
abbrev scCols : Memref sig .tc .vmem S2048x8 .f32 := Memref.whole cc0_scratch1
abbrev scSupp : Memref sig .tc .vmem S1x2048 .f32 := Memref.whole cc0_scratch2

/-- The region's invariant is the three scratch operands at some contents and the core's register. -/
theorem PhiA0_eq (c : Dev nD) :
    (Pipeline.ΦA spec0 c : sProp 𝕄)
      = iprop(iprop((∃ d, owns (c : Thread nD τ) scMask fullShare d) ∗ (∃ d, owns (c : Thread nD τ) scCols fullShare d) ∗ (∃ d, owns (c : Thread nD τ) scSupp fullShare d)) ∗ (∃ r, prngReg c r)) := by
  unfold Pipeline.ΦA; rw [scopedRest0_eq]; simp only [scMask, scCols, scSupp, owns_whole]; try rfl

end Cert.KernelIdeal.Body

end
-- ==== Proof.KernelIdeal.Loop.lean ====
/-
  The suppression loop of the body, over values: `lStep` is one trip on the suppression row, `lRun` the trips from a counter
  on, stopping early once a thousand boxes are kept. `spec_le` says that the loop's label, entered on the overlap matrix and
  the row, leaves the matrix as it was and the row at `lRun`.
-/
module

public import proofs.«01_k».proof.Proof.KernelIdeal.Common
public import Idealize.ShloMosaic.Lib.VecWindow
public import Idealize.ShloMosaic.Lib.Pointwise.Index

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The loop's variants: the trips to run. -/
abbrev 𝒱₀ : Variants := Variants.nat

/-! ## One trip and the run, over values -/

/-- Row `n` of the overlap matrix. -/
def rowAt (M : Vec F S2048x2048 .f32) (n : ℕ) : Vec F S1x2048 .f32 :=
  fun y => M (ix2 (⟨n % 2048, Nat.mod_lt _ (by decide)⟩ : Fin 2048) (y 1))

/-- Whether box `n` is alive: its entry of the row is zero. -/
def alive (v2 : IVec S1x2048 32) (n : ℕ) (s : Vec F S1x2048 .f32) : BitVec 1 :=
  Scalar.cmpf .oeq (k0_pay3 v2 (BitVec.ofNat 32 n) s) (Scalar.ofBits .f32 0x00000000#32)

/-- The row after trip `n`: raised by the matrix's row `n` if box `n` is alive. -/
def lStep (v2 : IVec S1x2048 32) (M : Vec F S2048x2048 .f32) (n : ℕ) (s : Vec F S1x2048 .f32) : Vec F S1x2048 .f32 :=
  if k0_cond1 (alive v2 n s) = 1#1 then k0_pay4 s (rowAt M n) else s

/-- The number of kept boxes after trip `n`. -/
def lCount (v2 : IVec S1x2048 32) (n : ℕ) (s : Vec F S1x2048 .f32) (cnt : BitVec 32) : BitVec 32 :=
  Scalar.addi cnt (Scalar.select (alive v2 n s) 1#32 0#32)

/-- The row after the trips from `n` on, with at most `k` to run: none once a thousand boxes are kept. -/
def lRun (v2 : IVec S1x2048 32) (M : Vec F S2048x2048 .f32) : ℕ → ℕ → BitVec 32 → Vec F S1x2048 .f32 → Vec F S1x2048 .f32
  | 0, _, _, s => s
  | k + 1, n, cnt, s =>
    if Scalar.cmpi .slt cnt 1000#32 = 1#1 then lRun v2 M k (n + 1) (lCount v2 n s cnt) (lStep v2 M n s) else s

/-- The row the loop leaves: at most 2000 trips from box 0 on, none kept yet. -/
@[irreducible] def lFinal (v2 : IVec S1x2048 32) (M : Vec F S2048x2048 .f32) (s : Vec F S1x2048 .f32) : Vec F S1x2048 .f32 :=
  lRun v2 M 2000 0 0#32 s

/-! ## The counter -/

theorem toInt_ofNat (n : ℕ) (hn : n ≤ 2000) : (BitVec.ofNat 32 n).toInt = n := by
  simp only [BitVec.toInt_eq_toNat_cond, BitVec.toNat_ofNat]; omega

/-- Below 2000 the counter's test passes; at 2000 it fails. -/
theorem slt_of_lt {n : ℕ} (hn : n < 2000) : Scalar.cmpi .slt (BitVec.ofNat 32 n) 2000#32 = 1#1 := by
  have h : (BitVec.ofNat 32 n).slt 2000#32 = true := by
    simp only [BitVec.slt, decide_eq_true_eq, toInt_ofNat n hn.le]
    show (n : ℤ) < 2000
    omega
  simp only [Scalar.cmpi, IntOp.cmpi, h]; rfl
theorem not_slt : Scalar.cmpi .slt (BitVec.ofNat 32 2000) 2000#32 = 0#1 := by decide

theorem addi_succ (n : ℕ) : Scalar.addi (BitVec.ofNat 32 n) 1#32 = BitVec.ofNat 32 (n + 1) := by
  simp only [Scalar.addi, IntOp.addi]; exact (BitVec.ofNat_add n 1).symm

/-- The two-way conjunction of the loop's test. -/
theorem andi_one (b : BitVec 1) : Scalar.andi 1#1 b = b := by revert b; decide
theorem andi_zero (b : BitVec 1) : Scalar.andi 0#1 b = 0#1 := by revert b; decide

/-- The row the counter names starts at that row, -/
theorem off_eq {n : ℕ} (hn : n < 2000) : k0_off1 (BitVec.ofNat 32 n) = ![n, 0] := by
  have : (Scalar.indexCast (BitVec.ofNat 32 n)).toNat = n := by
    show (BitVec.ofNat 32 n).toNat = n
    rw [BitVec.toNat_ofNat]; omega
  unfold k0_off1
  simp only [this]

/-- so the body's check of it holds. -/
theorem chk_of_lt {n : ℕ} (hn : n < 2000) (b : BitVec 1) : k0_chk1 (BitVec.ofNat 32 n) b := by
  intro _ a
  rw [off_eq hn]
  fin_cases a
  · show n + 1 ≤ 2048; omega
  · show 0 + 2048 ≤ 2048; omega

/-- A load of that row reads `rowAt`. -/
theorem readAt_row {sp : Space} (v : View sig .tc sp S2048x2048 .f32) (f : v.ty.Contents (Elt F)) {n : ℕ} (hn : n < 2000)
    (inb : ∀ a, k0_off1 (BitVec.ofNat 32 n) a + S1x2048.size a ≤ S2048x2048.size a) :
    v.readAt (Elt F) (Rect.unit (s := S2048x2048) (k0_off1 (BitVec.ofNat 32 n)) S1x2048.size inb).toLoadRect f
      = rowAt (v.read (Elt F) f) n := by
  funext y
  refine congrArg (v.read (Elt F) f) (funext fun a => Fin.ext ?_)
  have h0 : (y 0).val = 0 := by have := (y 0).isLt; change _ < 1 at this; omega
  have ho := congrFun (off_eq hn)
  fin_cases a
  · show k0_off1 (BitVec.ofNat 32 n) 0 + 1 * (y 0).val = n % 2048
    have h1 : k0_off1 (BitVec.ofNat 32 n) 0 = n := ho 0
    omega
  · show k0_off1 (BitVec.ofNat 32 n) 1 + 1 * (y 1).val = (y 1).val
    have h1 : k0_off1 (BitVec.ofNat 32 n) 1 = 0 := ho 1
    omega

/-! ## The label's specification -/

section Label

variable (c : Dev nD) (i : grid0.Coords) (v2 : IVec S1x2048 32)
  (arg11 : Memref sig .tc .vmem S1x2048 .f32) (harg11 : arg11.IsWhole) (arg9 : Memref sig .tc .vmem S2048x2048 .f32) (harg9 : arg9.IsWhole)
  (M : Vec F S2048x2048 .f32)

/-- The matrix at `M` and the row at `s`, both held whole. -/
def held (s : Vec F S1x2048 .f32) : sProp 𝕄 :=
  iprop(owns (c : Thread nD τ) arg9 fullShare M ∗ owns (c : Thread nD τ) arg11 fullShare s)

/-- With at most `k` trips to run from `n`: holding the matrix and the row at `s`, the label returns some counters, the
    matrix as it was and the row at `lRun`. -/
def spec (k n : ℕ) (cnt : BitVec 32) (s : Vec F S1x2048 .f32) : sWPT 𝕄 (BitVec 32 × BitVec 32) := do
  sWPT.consume (held c arg11 arg9 M s)
  let r ← sWPT.arbitrary
  sWPT.produce (held c arg11 arg9 M (lRun v2 M k n cnt s))
  pure r

theorem spec_apply (k n : ℕ) (cnt : BitVec 32) (s : Vec F S1x2048 .f32) (K : BitVec 32 × BitVec 32 → sProp 𝕄) :
    spec c v2 arg11 arg9 M k n cnt s K
      = iprop(held c arg11 arg9 M s ∗ ∀ r : BitVec 32 × BitVec 32, held c arg11 arg9 M (lRun v2 M k n cnt s) -∗ K r) := rfl

/-- The specification with `k` trips to run from `n` (`n + k = 2000`) is met by the label's body entered at variant `k`, by
    induction on `k`: at 2000, or with a thousand boxes kept, the test fails and the body returns; otherwise the row is read,
    raised by the matrix's row if the box is alive, and the label is called at the next counter. -/
theorem spec_le (E : Set ℕ) : ∀ k n, n + k = 2000 → ∀ (cnt : BitVec 32) (s : Vec F S1x2048 .f32) K,
    spec c v2 arg11 arg9 M k n cnt s K
      ⊢ wp frame (wpE (defs₀ (F := F)) 𝒱₀ (c : Thread nD τ) (some k)) E
          (defs₀ (F := F) .tc 1 ⟨i, v2, arg11, harg11, arg9, harg9, BitVec.ofNat 32 n, cnt⟩) K := by
  have hS9 : ∀ T, T ⊆ arg9.view.set := fun T => by rw [harg9.set_eq_univ]; exact Finset.subset_univ _
  have hS11 : ∀ T, T ⊆ arg11.view.set := fun T => by rw [harg11.set_eq_univ]; exact Finset.subset_univ _
  intro k
  induction k with
  | zero =>
    intro n hn cnt s K
    obtain rfl : n = 2000 := by omega
    rw [spec_apply]
    show _ ⊢ wp frame (wpE (defs₀ (F := F)) 𝒱₀ (c : Thread nD τ) (some 0)) E
      (cc0_while1 i v2 arg11 harg11 arg9 harg9 (BitVec.ofNat 32 2000) cnt) K
    simp only [cc0_while1_eq_skeleton]; unfold cc0_while1_skel
    have h01 : ¬(0#1 = 1#1) := by decide
    simp only [not_slt, andi_zero, h01, ↓reduceIte, Prog.pure_eq_ret]
    iintro ⟨H, Hk⟩
    rw [wp_ret]; imodintro
    iapply Hk
    simp only [lRun]; iexact H
  | succ k ih =>
    intro n hn cnt s K
    have hlt : n < 2000 := by omega
    rw [spec_apply]
    show _ ⊢ wp frame (wpE (defs₀ (F := F)) 𝒱₀ (c : Thread nD τ) (some (k + 1))) E
      (cc0_while1 i v2 arg11 harg11 arg9 harg9 (BitVec.ofNat 32 n) cnt) K
    simp only [cc0_while1_eq_skeleton]; unfold cc0_while1_skel
    simp only [slt_of_lt hlt, andi_one]
    by_cases hc : Scalar.cmpi .slt cnt 1000#32 = 1#1
    · simp only [hc, lRun, ↓reduceIte, Prog.lift, Prog.bind_op, Prog.bind_ret, Prog.pure_eq_ret, addi_succ]
      unfold held owns
      iintro ⟨⟨⟨%f9, %h9, H9⟩, ⟨%f11, %h11, H11⟩⟩, Hk⟩
      iapply (wp_load 𝒱₀ (c : Thread nD τ) (some (k + 1)) E (m := arg11) (hS11 _)) $$ H11; iintro H11
      iapply (wp_assume 𝒱₀ (c : Thread nD τ) (some (k + 1)) E (chk_of_lt hlt _))
      have hrd : arg11.view.readAt (Elt F) (Rect.unit (s := S1x2048) ![0, 0] S1x2048.size inb_S1x2048_S1x2048_0_0).toLoadRect f11 = s :=
        (View.readAt_full arg11.view f11 _).trans h11
      have hcnt : Scalar.addi cnt (Scalar.select (Scalar.cmpf .oeq (k0_pay3 v2 (BitVec.ofNat 32 n)
          (arg11.view.readAt (Elt F) (Rect.unit (s := S1x2048) ![0, 0] S1x2048.size inb_S1x2048_S1x2048_0_0).toLoadRect f11)) (FloatOps.ofBits FTy.f32 0#32)) 1#32 0#32)
          = lCount v2 n s cnt := by rw [hrd]; rfl
      have key : ∀ (g : arg11.view.ty.Contents (Elt F)) (w : BitVec 32), w = lCount v2 n s cnt → arg11.view.read (Elt F) g = lStep v2 M n s →
          iprop((arg9.view.loc (c : Thread nD τ) ↦[arg9.view.set]{fullShare} f9) ∗ (arg11.view.loc (c : Thread nD τ) ↦[arg11.view.set]{fullShare} g)
            ∗ (∀ r : BitVec 32 × BitVec 32, held c arg11 arg9 M (lRun v2 M k (n + 1) (lCount v2 n s cnt) (lStep v2 M n s)) -∗ K r) : sProp 𝕄)
          ⊢ wp frame (wpE (defs₀ (F := F)) 𝒱₀ (c : Thread nD τ) (some (k + 1))) E
            (.op (.call (1 : (Λ₀ F).Label) ⟨i, v2, arg11, harg11, arg9, harg9, BitVec.ofNat 32 (n + 1), w⟩) Prog.ret) K := by
        rintro g w rfl hg
        iintro ⟨H9, H11, Hk⟩
        iapply (wp_call_spec 𝒱₀ (c : Thread nD τ) (some (k + 1)) E (spec c v2 arg11 arg9 M k (n + 1) (lCount v2 n s cnt) (lStep v2 M n s)) k
          (fun u hu => by cases hu; exact Nat.lt_succ_self k)
          (ih (n + 1) (by omega) _ _))
        rw [spec_apply]
        isplitl [H9 H11]
        · unfold held owns
          isplitl [H9]
          · iexists f9; isplitr; · ipureintro; exact h9
            iexact H9
          iexists g; isplitr; · ipureintro; exact hg
          iexact H11
        iintro %r H
        rw [wp_ret]; imodintro
        iapply Hk
        iexact H
      unfold held owns at key
      split
      · next ha' =>
        have ha : k0_cond1 (alive v2 n s) = 1#1 := by unfold alive; rw [← hrd]; exact ha'
        have hwr : ∀ w : Vec F S1x2048 .f32, arg11.view.read (Elt F) ((arg11.access (Rect.unit (s := S1x2048) ![0, 0] S1x2048.size
            inb_S1x2048_S1x2048_0_0)).write (Elt F) f11 w Finset.univ) = w :=
          fun w => View.read_writes_full arg11.view f11 inb_S1x2048_S1x2048_0_0 w []
        have hrow : arg9.view.readAt (Elt F) (Rect.unit (s := S2048x2048) (k0_off1 (BitVec.ofNat 32 n)) S1x2048.size
            (k0_off1_inb _ _ (chk_of_lt hlt _) ha')).toLoadRect f9 = rowAt M n :=
          (readAt_row arg9.view f9 hlt _).trans (by rw [h9])
        iapply (wp_load 𝒱₀ (c : Thread nD τ) (some (k + 1)) E (m := arg11) (hS11 _)) $$ H11; iintro H11
        iapply (wp_load 𝒱₀ (c : Thread nD τ) (some (k + 1)) E (m := arg9) (hS9 _)) $$ H9; iintro H9
        iapply (wp_load 𝒱₀ (c : Thread nD τ) (some (k + 1)) E (m := arg11) (hS11 _)) $$ H11; iintro H11
        iapply (wp_store 𝒱₀ (c : Thread nD τ) (some (k + 1)) E (m := arg11) (r := Rect.unit (s := S1x2048) ![0, 0] S1x2048.size inb_S1x2048_S1x2048_0_0) (Mk := Finset.univ) (S := arg11.view.set) (hS11 _)) $$ H11; iintro H11
        iapply (key _ _ hcnt ?_)
        · rw [lStep, if_pos ha]
          exact (hwr _).trans (congrArg₂ k0_pay4 hrd hrow)
        isplitl [H9]; · iexact H9
        isplitl [H11]; · iexact H11
        iexact Hk
      · next ha' =>
        have ha : ¬k0_cond1 (alive v2 n s) = 1#1 := by unfold alive; rw [← hrd]; exact ha'
        iapply (key f11 _ hcnt (by rw [h11, lStep, if_neg ha]))
        isplitl [H9]; · iexact H9
        isplitl [H11]; · iexact H11
        iexact Hk
    · simp only [hc, lRun, ↓reduceIte, Prog.pure_eq_ret]
      iintro ⟨H, Hk⟩
      rw [wp_ret]; imodintro
      iapply Hk
      iexact H

/-- The whole loop: holding the matrix and the row at `s`, the label entered at box 0 returns some counters, the matrix as it
    was and the row at `lFinal`. -/
def loopSpec (s : Vec F S1x2048 .f32) : sWPT 𝕄 (BitVec 32 × BitVec 32) := do
  sWPT.consume (held c arg11 arg9 M s)
  let r ← sWPT.arbitrary
  sWPT.produce (held c arg11 arg9 M (lFinal v2 M s))
  pure r

theorem loopSpec_apply (s : Vec F S1x2048 .f32) (K : BitVec 32 × BitVec 32 → sProp 𝕄) :
    loopSpec c v2 arg11 arg9 M s K
      = iprop(held c arg11 arg9 M s ∗ ∀ r : BitVec 32 × BitVec 32, held c arg11 arg9 M (lFinal v2 M s) -∗ K r) := rfl

/-- The whole loop's specification is met by the label's body entered at variant 2000. -/
theorem loopSpec_le (E : Set ℕ) (s : Vec F S1x2048 .f32) : ∀ K, loopSpec c v2 arg11 arg9 M s K
    ⊢ wp frame (wpE (defs₀ (F := F)) 𝒱₀ (c : Thread nD τ) (some (2000 : ℕ))) E
        (defs₀ (F := F) .tc 1 ⟨i, v2, arg11, harg11, arg9, harg9, 0#32, 0#32⟩) K := by
  intro K
  rw [loopSpec_apply]; unfold lFinal; rw [← spec_apply]
  exact spec_le c i v2 arg11 harg11 arg9 harg9 M E 2000 0 rfl 0#32 s K

end Label

end Cert.KernelIdeal.Body

end
-- ==== Proof.KernelIdeal.BodyRun.lean ====
/-
  The kernel body run on any whole memrefs: what its stores leave in the overlap matrix, the suppression row and the result's
  block, as lists of written pieces. The body fills the matrix and the row, calls the suppression loop (`spec_le`), and
  gathers the kept boxes from the row the loop leaves.
-/
module

public import proofs.«01_k».proof.Proof.KernelIdeal.Loop

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Run

variable (c : Dev nD) (i : grid0.Coords)
  (arg1 : Memref sig .tc .smem S1x1x3 .f32) (harg1 : arg1.IsWhole) (arg2 : Memref sig .tc .vmem S1x4x2048 .f32) (harg2 : arg2.IsWhole)
  (arg3 : Memref sig .tc .vmem S1x4x2048 .f32) (harg3 : arg3.IsWhole) (arg4 : Memref sig .tc .vmem S1x1x2048 .f32) (harg4 : arg4.IsWhole)
  (arg5 : Memref sig .tc .vmem S1x2048x4 .f32) (harg5 : arg5.IsWhole) (arg6 : Memref sig .tc .vmem S1x2048x4 .f32) (harg6 : arg6.IsWhole)
  (arg7 : Memref sig .tc .vmem S1x2048x1 .f32) (harg7 : arg7.IsWhole) (arg8 : Memref sig .tc .vmem S1x1024x8 .f32) (harg8 : arg8.IsWhole)
  (arg9 : Memref sig .tc .vmem S2048x2048 .f32) (harg9 : arg9.IsWhole) (arg10 : Memref sig .tc .vmem S2048x8 .f32) (harg10 : arg10.IsWhole)
  (arg11 : Memref sig .tc .vmem S1x2048 .f32) (harg11 : arg11.IsWhole)
  (x0 : Vec F S1x1x3 .f32) (x1 x2 : Vec F S1x4x2048 .f32) (x3 : Vec F S1x1x2048 .f32) (x4 x5 : Vec F S1x2048x4 .f32) (x6 : Vec F S1x2048x1 .f32)

/-- A memref whose pieces `L` cover it, written over anything, is held at what the pieces alone leave. -/
theorem owns_canon (c : Dev nD) {sp : Space} {sh : Shape} (m : Memref sig .tc sp sh .f32) (f : Buf (Elt F) (m.view.loc (c : Thread nD τ)))
    (L : List (View.Piece (Elt F) sh .f32)) (hL : ∀ y, ∃ p ∈ L, y ∈ p.1.set) (G : sProp 𝕄) :
    (m.view.loc (c : Thread nD τ) ↦[m.view.set]{fullShare} m.view.writes (Elt F) f L)
      ⊢ iprop((owns (c : Thread nD τ) m fullShare (View.canon L) -∗ G) -∗ G) := by
  iintro H Hk
  iapply Hk
  unfold owns
  iexists _; isplitr; swap; · iexact H
  ipureintro; exact View.read_writes_eq_canon (Val := Elt F) m.view f L hL

/-- The seven input blocks, held whole at their contents. -/
def ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6)

set_option maxHeartbeats 1000000 in
/-- The pieces the body writes (last first): into the matrix and the row before the loop, and into the result's block, with
    the proof that the body, on the input blocks at their contents and the other memrefs at anything, runs to the
    continuation holding the inputs as they were, the result's block with its pieces written, and the scratch at something. -/
noncomputable def bodyRun :
    { L7 : List (View.Piece (Elt F) S1x1024x8 .f32) //
      ∀ (E : Set ℕ) (K : PUnit → sProp 𝕄),
        iprop(ins c arg1 arg2 arg3 arg4 arg5 arg6 arg7 x0 x1 x2 x3 x4 x5 x6
            ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)
            ∗ (iprop(ins c arg1 arg2 arg3 arg4 arg5 arg6 arg7 x0 x1 x2 x3 x4 x5 x6
              ∗ (∃ f, arg8.view.loc (c : Thread nD τ) ↦[arg8.view.set]{fullShare} arg8.view.writes (Elt F) f L7)
              ∗ (∃ d, owns (c : Thread nD τ) arg9 fullShare d)
              ∗ (∃ d, owns (c : Thread nD τ) arg10 fullShare d) ∗ (∃ d, owns (c : Thread nD τ) arg11 fullShare d)) -∗ K ⟨⟩))
          ⊢ wp frame (wpE (defs₀ (F := F)) 𝒱₀ c none) E
              (cc0__nms_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__nms_body_eq_skeleton]; unfold cc0__nms_body_skel
    simp only [k0_part22_eq_skeleton, k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton, k0_part14_eq_skeleton,
      k0_part15_eq_skeleton, k0_part16_eq_skeleton, k0_part17_eq_skeleton, k0_part18_eq_skeleton, k0_part19_eq_skeleton,
      k0_part20_eq_skeleton, k0_part21_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
      ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    sl_exec
    -- the matrix and the row are what the stores so far leave in them, whatever they held
    iapply (owns_canon c arg9 _ _ ?covM _) $$ HS0
    case covM => exact fun y => View.cover_of_tiledBy _ ![128, 2048] (by sl_kernel_rfl) y
    iintro HS0
    iapply (owns_canon c arg11 _ _ ?covS _) $$ HS2
    case covS => exact fun y => View.cover_of_tiledBy _ ![1, 2048] (by sl_kernel_rfl) y
    iintro HS2
    -- the loop
    iapply (wp_call_spec 𝒱₀ (c : Thread nD τ) none E (loopSpec c _ arg11 arg9 _ _) (2000 : ℕ) (fun u hu => nomatch hu)
      (loopSpec_le c i _ arg11 harg11 arg9 harg9 _ E _))
    rw [loopSpec_apply]; unfold held
    isplitl [HS0 HS2]
    · isplitl [HS0]
      · iexact HS0
      iexact HS2
    unfold owns
    iintro %r ⟨⟨%g9, %hg9, HS0⟩, ⟨%g11, %hg11, HS2⟩⟩
    obtain rfl := harg9.eq_unread hg9; obtain rfl := harg11.eq_unread hg11
    sl_exec
    sl_step
    iapply Hk
    isplitl [H0 H1 H2 H3 H4 H5 H6]
    · isplitl [H0]; · iexists _; isplitr; · ipureintro; exact harg1.read_unread _
                      iexact H0
      isplitl [H1]; · iexists _; isplitr; · ipureintro; exact harg2.read_unread _
                      iexact H1
      isplitl [H2]; · iexists _; isplitr; · ipureintro; exact harg3.read_unread _
                      iexact H2
      isplitl [H3]; · iexists _; isplitr; · ipureintro; exact harg4.read_unread _
                      iexact H3
      isplitl [H4]; · iexists _; isplitr; · ipureintro; exact harg5.read_unread _
                      iexact H4
      isplitl [H5]; · iexists _; isplitr; · ipureintro; exact harg6.read_unread _
                      iexact H5
      iexists _; isplitr; · ipureintro; exact harg7.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Run

end Cert.KernelIdeal.Body

end
-- ==== Proof.KernelIdeal.Run.lean ====
/-
  The kernel's run from the launch: the region's proof data (`dats`), the body obligation at every point, and from them the
  run of @main and the frame: the argument arrays end as launched and every semaphore counter at zero.
-/
module

public import proofs.«01_k».proof.Proof.KernelIdeal.BodyRun
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0 (t : Fin (cfg0 (F := F)).N) : Memref sig .tc .smem S1x1x3 .f32 := win0_0.stage ((cfg0 (F := F)).slots t 0)
abbrev ms1 (t : Fin (cfg0 (F := F)).N) : Memref sig .tc .vmem S1x4x2048 .f32 := win0_1.stage ((cfg0 (F := F)).slots t 1)
abbrev ms2 (t : Fin (cfg0 (F := F)).N) : Memref sig .tc .vmem S1x4x2048 .f32 := win0_2.stage ((cfg0 (F := F)).slots t 2)
abbrev ms3 (t : Fin (cfg0 (F := F)).N) : Memref sig .tc .vmem S1x1x2048 .f32 := win0_3.stage ((cfg0 (F := F)).slots t 3)
abbrev ms4 (t : Fin (cfg0 (F := F)).N) : Memref sig .tc .vmem S1x2048x4 .f32 := win0_4.stage ((cfg0 (F := F)).slots t 4)
abbrev ms5 (t : Fin (cfg0 (F := F)).N) : Memref sig .tc .vmem S1x2048x4 .f32 := win0_5.stage ((cfg0 (F := F)).slots t 5)
abbrev ms6 (t : Fin (cfg0 (F := F)).N) : Memref sig .tc .vmem S1x2048x1 .f32 := win0_6.stage ((cfg0 (F := F)).slots t 6)
abbrev ms7 (t : Fin (cfg0 (F := F)).N) : Memref sig .tc .vmem S1x1024x8 .f32 := win0_7.stage ((cfg0 (F := F)).slots t 7)

/-! ## The blocks -/

/-- An input window's staging buffer holds its block at every point, for any proof data whose array is the region-entry
    contents and whose body leaves the block in place. -/
theorem before_of0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of5 {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of6 {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The body's run at a point: its staging memrefs and input blocks. -/
abbrev runAt (c : Dev nD) (t : Fin (cfg0 (F := F)).N) :=
  bodyRun c (grid0.coords t) (ms0 t) (hstage0_0 (((cfg0 (F := F)).slots t 0).cast nbuf0_0)) (ms1 t) (hstage0_1 (((cfg0 (F := F)).slots t 1).cast nbuf0_1)) (ms2 t) (hstage0_2 (((cfg0 (F := F)).slots t 2).cast nbuf0_2)) (ms3 t) (hstage0_3 (((cfg0 (F := F)).slots t 3).cast nbuf0_3)) (ms4 t) (hstage0_4 (((cfg0 (F := F)).slots t 4).cast nbuf0_4)) (ms5 t) (hstage0_5 (((cfg0 (F := F)).slots t 5).cast nbuf0_5)) (ms6 t) (hstage0_6 (((cfg0 (F := F)).slots t 6).cast nbuf0_6)) (ms7 t) (hstage0_7 (((cfg0 (F := F)).slots t 7).cast nbuf0_7))
    scMask (Memref.isWhole_whole _) scCols (Memref.isWhole_whole _) scSupp (Memref.isWhole_whole _)
    (iblk m c 0 t) (iblk m c 1 t) (iblk m c 2 t) (iblk m c 3 t) (iblk m c 4 t) (iblk m c 5 t) (iblk m c 6 t)

/-- The pieces written into the result's block cover it: cut into columns they tile it. -/
theorem cover_out (c : Dev nD) (t : Fin (cfg0 (F := F)).N) (y : S1x1024x8.Idx) : ∃ pc ∈ (runAt m c t).1, y ∈ pc.1.set :=
  View.cover_of_tiledBy (runAt m c t).1 ![1, 1024, 1] (by sl_kernel_rfl) y

/-- What the body leaves in the result's block at a point. -/
def outAt (c : Dev nD) (t : Fin (cfg0 (F := F)).N) : Vec F S1x1024x8 .f32 := View.canon (runAt m c t).1

/-! ## The proof data -/

/-- The region's proof data: the arrays as the region finds them; after the body each input's buffer at its block and the
    result's at `outAt`; the scratch and the register at anything; nothing owed; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by dsimp only [dats]; rfl
theorem after1 (c : Dev nD) (t : Fin (cfg0 (F := F)).N) : (dats m 0 c).after 1 t = iblk m c 1 t := by dsimp only [dats]; rfl
theorem after2 (c : Dev nD) (t : Fin (cfg0 (F := F)).N) : (dats m 0 c).after 2 t = iblk m c 2 t := by dsimp only [dats]; rfl
theorem after3 (c : Dev nD) (t : Fin (cfg0 (F := F)).N) : (dats m 0 c).after 3 t = iblk m c 3 t := by dsimp only [dats]; rfl
theorem after4 (c : Dev nD) (t : Fin (cfg0 (F := F)).N) : (dats m 0 c).after 4 t = iblk m c 4 t := by dsimp only [dats]; rfl
theorem after5 (c : Dev nD) (t : Fin (cfg0 (F := F)).N) : (dats m 0 c).after 5 t = iblk m c 5 t := by dsimp only [dats]; rfl
theorem after6 (c : Dev nD) (t : Fin (cfg0 (F := F)).N) : (dats m 0 c).after 6 t = iblk m c 6 t := by dsimp only [dats]; rfl
theorem after7 (c : Dev nD) (t : Fin (cfg0 (F := F)).N) : (dats m 0 c).after 7 t = outAt m c t := by dsimp only [dats]; rfl
theorem before0 (c : Dev nD) (t : Fin (cfg0 (F := F)).N) (d) : (dats m 0 c).before 0 t d = iblk m c 0 t :=
  before_of0 m (dats m 0 c) (A_eq m c 0) (after0 m c) t d
theorem before1 (c : Dev nD) (t : Fin (cfg0 (F := F)).N) (d) : (dats m 0 c).before 1 t d = iblk m c 1 t :=
  before_of1 m (dats m 0 c) (A_eq m c 1) (after1 m c) t d
theorem before2 (c : Dev nD) (t : Fin (cfg0 (F := F)).N) (d) : (dats m 0 c).before 2 t d = iblk m c 2 t :=
  before_of2 m (dats m 0 c) (A_eq m c 2) (after2 m c) t d
theorem before3 (c : Dev nD) (t : Fin (cfg0 (F := F)).N) (d) : (dats m 0 c).before 3 t d = iblk m c 3 t :=
  before_of3 m (dats m 0 c) (A_eq m c 3) (after3 m c) t d
theorem before4 (c : Dev nD) (t : Fin (cfg0 (F := F)).N) (d) : (dats m 0 c).before 4 t d = iblk m c 4 t :=
  before_of4 m (dats m 0 c) (A_eq m c 4) (after4 m c) t d
theorem before5 (c : Dev nD) (t : Fin (cfg0 (F := F)).N) (d) : (dats m 0 c).before 5 t d = iblk m c 5 t :=
  before_of5 m (dats m 0 c) (A_eq m c 5) (after5 m c) t d
theorem before6 (c : Dev nD) (t : Fin (cfg0 (F := F)).N) (d) : (dats m 0 c).before 6 t d = iblk m c 6 t :=
  before_of6 m (dats m 0 c) (A_eq m c 6) (after6 m c) t d

/-! ## The body obligation -/

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 800000 in
/-- The body at any point, from its run: the scratch is handed over at some contents and taken back at some contents. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.ΦA spec0 c from rfl, PhiA0_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt m c t).2 Set.univ _)
  unfold ins
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [HS0]; · iexact HS0
  isplitl [HS1]; · iexact HS1
  isplitl [HS2]; · iexact HS2
  iintro ⟨⟨H0, H1, H2, H3, H4, H5, H6⟩, ⟨%e7, H7⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_eq_canon (Val := Elt F) _ _ _ (cover_out m c t)

/-- The body table's row at a point's slots is the body at the point. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution of @main from zero counters terminates, with every array of the region at what the proof data
    says, every other unscoped buffer as the operations after the region leave it, and every counter at zero. -/
theorem run_quiescent : θ_run defs (onTc (τ := τ) (main (F := F))) (s₀ m ρ)
    (fun r => (Pipeline.FramePost (cfgs (F := F)) (dats m) 0 (Pipeline.afterTail₀ (cfgs (F := F)) (dats m) 0 (V0 m) [hostOps1])) r ∧ r.2.sem = fun _ => 0) :=
  Pipeline.θ_run_frame_around (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The same without the counters. -/
theorem run : θ_run defs (onTc (τ := τ) (main (F := F))) (s₀ m ρ)
    (Pipeline.FramePost (cfgs (F := F)) (dats m) 0 (Pipeline.afterTail₀ (cfgs (F := F)) (dats m) 0 (V0 m) [hostOps1])) :=
  (θ_run defs _ _).mono (fun _ h => h.1) (run_quiescent m ρ)

/-- The frame: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (run m ρ)) ((θ_run defs _ _).mono (fun _ h => h.2) (run_quiescent m ρ))

end Cert.KernelIdeal.Body

end
-- ==== Proof.ReferenceIdeal.Run.lean ====
/-
  The reference's run: it ends with its results at what its lines leave, no operation writes an argument, and it declares no
  semaphore.
  `kept` is the same for any buffer: what the loop and the lines after it do not write is read at the end as the lines
  before the loop left it.
-/
module

public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The references that @main's operations after the loop write, in order. -/
abbrev postW : List (Ref sig .tc) := [
  main_v118, main_v119, main_call5_call0_c, main_call5_call0_v0, main_v120, main_v121, main_v122, main_v123, main_v124,
  main_v125, main_v126, main_c_29, main_v127, main_v128, main_v129, main_v130, main_v131, main_v132, main_v133, main_v134,
  main_v135, main_v136, main_v137, main_v138, main_v139, main_v140, main_v141, main_v142, main_v143, main_v144, main_call6_c,
  main_call6_v0, main_call6_v1, main_call6_c_0, main_call6_v2, main_call6_v3, main_call6_v4, main_v145, main_cst_30,
  main_call7_v0, main_call7_v1, main_call7_v2, main_v146, main_call8_c, main_call8_v0, main_call8_v1, main_call8_c_0,
  main_call8_v2, main_call8_v3, main_call8_v4, main_call8_v5, main_v147, main_cst_31, main_call9_v0, main_call9_v1, main_v148,
  main_v149, main_v150]

theorem post_writes : (List.flatten postI : List (HloOp τ sig (Elt F))).Forall
    fun op => op.writes ⊆ (postW.map (Proc.devRef (τ := τ) .tc)).toFinset :=
  StableHlo.forall_writes_sub_of_map rfl

/-- The references that @main's operations before the loop write. -/
abbrev preW : List (Ref sig .tc) :=
  hostOps0_W ++ hostOps0_1_W ++ hostOps0_2_W ++ hostOps0_3_W ++ hostOps0_4_W ++ hostOps0_5_W ++ hostOps0_6_W ++ hostOps0_7_W
    ++ hostOps0_8_W ++ hostOps0_9_W ++ hostOps0_10_W

theorem pre_writes : (List.flatten preI : List (HloOp τ sig (Elt F))).Forall
    fun op => op.writes ⊆ (preW.map (Proc.devRef (τ := τ) .tc)).toFinset :=
  StableHlo.forall_writes_sub_of_map rfl

/-- A buffer that the loop does not write holds after any number of trips what it held on entry. -/
theorem atK_kept (c : Dev nD) (b : Ref sig .tc) (h₁ : b ∉ condOps_W) (h₂ : b ∉ while0Ops0_W) :
    ∀ k, atK m k c (Proc.devRef .tc b) = entryContents preI m c (Proc.devRef .tc b)
  | 0 => rfl
  | k + 1 => by
    show afterL bodyI (after condOps (atK m k c)) _ = _
    rw [afterL_cons, afterL_nil, after_of_writes_sub _ _ while0Ops0_writes h₂, after_of_writes_sub _ _ condOps_writes h₁]
    exact atK_kept c b h₁ h₂ k

/-- A buffer that nothing from the loop on writes ends as the lines before the loop left it. -/
theorem kept (c : Dev nD) (b : Ref sig .tc) (h₁ : b ∉ condOps_W) (h₂ : b ∉ while0Ops0_W) (h₃ : b ∉ postW) :
    finalContents condOps preI bodyI postI 2000 m c (Proc.devRef .tc b) = entryContents preI m c (Proc.devRef .tc b) := by
  rw [finalContents, afterL_eq_after_flatten, after_of_writes_sub _ _ post_writes h₃, after_of_writes_sub _ _ condOps_writes h₁]
  exact atK_kept m c b h₁ h₂ 2000

/-- A buffer that no operation writes ends as launched. -/
theorem untouched (c : Dev nD) (b : Ref sig .tc) (h₀ : b ∉ preW) (h₁ : b ∉ condOps_W) (h₂ : b ∉ while0Ops0_W) (h₃ : b ∉ postW) :
    finalContents condOps preI bodyI postI 2000 m c (Proc.devRef .tc b) = m ((c : Thread nD τ).loc b) := by
  rw [kept m c b h₁ h₂ h₃, entryContents, afterL_eq_after_flatten, after_of_writes_sub _ _ pre_writes h₀]

/-- The reference's run: its two results end at `finalContents`, its arguments as launched. -/
theorem run : θ_run (defs (F := F)) (onTc (τ := τ) (main (F := F))) ⟨m, fun _ => 0, ρ⟩ (fun r => ∀ c : Dev nD,
      r.2.mem ((c.tc : Thread nD τ).loc main_v149) = finalContents condOps preI bodyI postI 2000 m c (Proc.devRef .tc main_v149)
      ∧ r.2.mem ((c.tc : Thread nD τ).loc main_v150) = finalContents condOps preI bodyI postI 2000 m c (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c main_v149 (by decide), h c main_v150 (by decide),
     (h c main_arg0 (by decide)).trans (untouched m c main_arg0 (by decide +kernel) (by decide +kernel) (by decide +kernel) (by decide +kernel)),
     (h c main_arg1 (by decide)).trans (untouched m c main_arg1 (by decide +kernel) (by decide +kernel) (by decide +kernel) (by decide +kernel)),
     (h c main_arg2 (by decide)).trans (untouched m c main_arg2 (by decide +kernel) (by decide +kernel) (by decide +kernel) (by decide +kernel))⟩)
    (run_fold m ρ)

/-- The reference leaves its arguments as launched and every counter at zero: it declares no semaphore. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by rfl) r.2⟩) (run m ρ)

end Cert.ReferenceIdeal.Val

end
-- ==== Proof.Anchors.lean ====
/- The two programs print the same table of anchors. -/
module

public import proofs.«01_k».proof.KernelIdeal
public import proofs.«01_k».proof.ReferenceIdeal

@[expose] public section

set_option maxRecDepth 16384

namespace Cert

set_option maxHeartbeats 20000000 in
/-- The anchor tables are the same, entry by entry. -/
theorem anchors_eq : KernelIdeal.lit0 = ReferenceIdeal.lit0 := by
  funext i
  exact congrArg (fun f : ℕ → BitVec 32 => f i.val) (rfl : KernelIdeal.lit0t = ReferenceIdeal.lit0t)

end Cert
-- ==== Proof.Spec.lean ====
/-
  The mathematics that both programs are compared with, over the extended reals: the corners of a decoded and clipped box, when
  a box is valid, when two boxes overlap too much, greedy suppression in the order of the scores, and the place of a kept
  box among the kept ones. Nothing here mentions either program.
-/
module

public import Idealize.ShloMosaic.PureOps.Ideal
public import Mathlib.Order.Interval.Finset.Fin
public import Mathlib.Data.Nat.Count

@[expose] public section

noncomputable section

namespace Cert.Nms

open Idealize.ShloMosaic

/-! ## One box -/

/-- The float words of 0.5, 2, the clip of the size deltas and the overlap threshold, as extended reals. -/
def half : EReal := Ideal.ofBits .f32 0x3F000000#32
def two : EReal := Ideal.ofBits .f32 0x40000000#32
def top : EReal := Ideal.ofBits .f32 0x40845349#32
def thr : EReal := Ideal.ofBits .f32 0x3F333333#32

/-- The side of a box between the coordinates `a` and `b`, both included. -/
def side (a b : EReal) : EReal := b - a + 1

/-- The centre that the delta `d` moves the anchor's side `a … b` to. -/
def centre (d a b : EReal) : EReal := d * side a b + (a + half * side a b)

/-- The side that the delta `e` stretches the anchor's side `a … b` to. -/
def span (e a b : EReal) : EReal := Ideal.exp (min e top) * side a b

/-- The lower end of the decoded side, clipped to an image of length `L`. -/
def lower (d e a b L : EReal) : EReal := min (L - 1) (max 0 (centre d a b - half * span e a b))

/-- The upper end of the decoded side, clipped to an image of length `L`. -/
def upper (d e a b L : EReal) : EReal := min (L - 1) (max 0 (centre d a b + half * span e a b - 1))

/-- A box by its corners. -/
structure Box where
  x1 : EReal
  y1 : EReal
  x2 : EReal
  y2 : EReal

/-- The decoded box of the anchor `a` moved by the deltas `d` in an image of width `W` and height `H`. -/
def decode (a d : Fin 4 → EReal) (W H : EReal) : Box :=
  ⟨lower (d 0) (d 2) (a 0) (a 2) W, lower (d 1) (d 3) (a 1) (a 3) H, upper (d 0) (d 2) (a 0) (a 2) W, upper (d 1) (d 3) (a 1) (a 3) H⟩

/-- The box's sides are not negative and its middle lies in the image. -/
def Valid (b : Box) (W H : EReal) : Prop :=
  0 ≤ side b.x1 b.x2 ∧ 0 ≤ side b.y1 b.y2 ∧ b.x1 + Ideal.div (side b.x1 b.x2) two < W ∧ b.y1 + Ideal.div (side b.y1 b.y2) two < H

/-- The box's area. -/
def area (b : Box) : EReal := side b.x1 b.x2 * side b.y1 b.y2

/-- The area of the intersection of two boxes. -/
def inter (b b' : Box) : EReal :=
  max 0 (min b.x2 b'.x2 - max b.x1 b'.x1 + 1) * max 0 (min b.y2 b'.y2 - max b.y1 b'.y1 + 1)

/-- The intersection over the union exceeds the threshold. -/
def Over (b b' : Box) : Prop := thr < Ideal.div (inter b b') (area b + area b' - inter b b')

theorem inter_comm (b b' : Box) : inter b b' = inter b' b := by
  unfold inter
  rw [min_comm b.x2, max_comm b.x1, min_comm b.y2, max_comm b.y1]

/-- Overlapping too much is symmetric. -/
theorem over_symm {b b' : Box} (h : Over b b') : Over b' b := by
  unfold Over at *
  rw [inter_comm b', add_comm (area b')]
  exact h

/-! ## Greedy suppression -/

section Greedy

open Classical

variable (ok : ℕ → Prop) (ov : ℕ → ℕ → Prop)

/-- Box `j` is suppressed once the boxes before `k` have had their turn: invalid from the start, or overlapping too much
    with an earlier box that was not suppressed at its own turn. -/
def Sup : ℕ → ℕ → Prop
  | 0, j => ¬ ok j
  | k + 1, j => Sup k j ∨ (ov k j ∧ k < j ∧ ¬ Sup k k)

/-- Box `j` is kept: it is not suppressed at its own turn. -/
def Keep (j : ℕ) : Prop := ¬ Sup ok ov j j

/-- Box `j` is the kept box number `r`, counted from 0. -/
def Pick (r j : ℕ) : Prop := Keep ok ov j ∧ Nat.count (Keep ok ov) j = r

variable {ok ov}

theorem Sup.mono {j k k' : ℕ} (h : k ≤ k') (hs : Sup ok ov k j) : Sup ok ov k' j := by
  induction h with
  | refl => exact hs
  | step _ ih => exact Or.inl ih

/-- From its own turn on a box does not change. -/
theorem sup_of_le {j k : ℕ} (h : j ≤ k) : Sup ok ov k j ↔ Sup ok ov j j := by
  induction h with
  | refl => exact Iff.rfl
  | @step n hn ih =>
    refine ⟨fun hs => ?_, fun hs => Or.inl (ih.2 hs)⟩
    rcases hs with hs | ⟨-, hlt, -⟩
    · exact ih.1 hs
    · exact absurd hlt (Nat.not_lt.mpr hn)

/-- With a symmetric overlap it does not matter whether a kept box suppresses the later boxes only or all others. -/
theorem sup_succ (symm : ∀ i j, ov i j → ov j i) (k j : ℕ) :
    Sup ok ov (k + 1) j ↔ Sup ok ov k j ∨ (ov k j ∧ k ≠ j ∧ ¬ Sup ok ov k k) := by
  refine ⟨fun h => h.imp id fun ⟨h₁, h₂, h₃⟩ => ⟨h₁, Nat.ne_of_lt h₂, h₃⟩, fun h => ?_⟩
  rcases h with h | ⟨h₁, h₂, h₃⟩
  · exact Or.inl h
  · rcases Nat.lt_or_gt_of_ne h₂ with hlt | hgt
    · exact Or.inr ⟨h₁, hlt, h₃⟩
    · refine Or.inl (Sup.mono (Nat.le_of_lt hgt) ?_)
      by_contra hj
      exact h₃ (Sup.mono hgt (Or.inr ⟨symm _ _ h₁, hgt, hj⟩))

/-- Stopping after `I` boxes, when `T` are kept or all `N` are done, leaves the first `T` kept boxes what they are: a box not
    suppressed by then with `r < T` such boxes before it is the kept box number `r`. -/
theorem pick_of_stop {N T I : ℕ} (hok : ∀ j, ok j → j < N) (hstop : I = N ∨ Nat.count (Keep ok ov) I = T) (r j : ℕ)
    (hr : r < T) : (¬ Sup ok ov I j ∧ Nat.count (fun i => ¬ Sup ok ov I i) j = r) ↔ Pick ok ov r j := by
  have heq : ∀ i, i < I → ((¬ Sup ok ov I i) ↔ Keep ok ov i) := fun i hi => not_congr (sup_of_le (Nat.le_of_lt hi))
  have hcnt : ∀ n, n ≤ I → Nat.count (fun i => ¬ Sup ok ov I i) n = Nat.count (Keep ok ov) n := by
    intro n hn
    induction n with
    | zero => simp
    | succ n ih =>
      rw [Nat.count_succ, Nat.count_succ, ih (by omega)]
      simp only [heq n (by omega)]
  rcases Nat.lt_or_ge j I with hj | hj
  · unfold Pick
    rw [heq j hj, hcnt j (Nat.le_of_lt hj)]
  · rcases hstop with rfl | hT
    · have hbad : ∀ k, Sup ok ov k j := fun k => Sup.mono (Nat.zero_le k) (fun h => absurd (hok j h) (by omega))
      exact ⟨fun h => absurd (hbad _) h.1, fun h => absurd (hbad _) h.1⟩
    · have h₁ : T ≤ Nat.count (fun i => ¬ Sup ok ov I i) j := by
        rw [← hT, ← hcnt I le_rfl]; exact Nat.count_monotone _ hj
      have h₂ : T ≤ Nat.count (Keep ok ov) j := by rw [← hT]; exact Nat.count_monotone _ hj
      exact ⟨fun h => absurd h.2 (by omega), fun h => absurd h.2 (by omega)⟩

/-- There is one kept box number `r` at most. -/
theorem pick_unique {r j j' : ℕ} (h : Pick ok ov r j) (h' : Pick ok ov r j') : j = j' :=
  Nat.count_injective h.1 h'.1 (h.2.trans h'.2.symm)

/-- A kept box is valid, so one of the first `N`. -/
theorem pick_lt {N : ℕ} (hok : ∀ j, ok j → j < N) {r j : ℕ} (h : Pick ok ov r j) : j < N := by
  by_contra hj
  exact h.1 (Sup.mono (Nat.zero_le j) fun h => hj (hok j h))

/-- There is a kept box number `r` exactly when more than `r` of the first `N` are kept. -/
theorem pick_exists {N : ℕ} (hok : ∀ j, ok j → j < N) (r : ℕ) : (∃ j, Pick ok ov r j) ↔ r < Nat.count (Keep ok ov) N := by
  constructor
  · rintro ⟨j, hj⟩
    have := Nat.count_strict_mono (n := N) hj.1 (pick_lt hok hj)
    rw [hj.2] at this
    exact this
  · intro h
    clear hok
    induction N with
    | zero => simp at h
    | succ n ih =>
      rcases Nat.lt_or_ge r (Nat.count (Keep ok ov) n) with hr | hr
      · exact ih hr
      · rw [Nat.count_succ] at h
        by_cases hn : Keep ok ov n
        · rw [if_pos hn] at h
          exact ⟨n, hn, by omega⟩
        · rw [if_neg hn] at h
          omega

/-- The kept box number `r` is how many of the first `N` boxes have at most `r` kept ones up to and including themselves. -/
theorem pick_index {N : ℕ} (hok : ∀ j, ok j → j < N) {r j : ℕ} (h : Pick ok ov r j) :
    ((Finset.univ : Finset (Fin N)).filter fun i : Fin N => Nat.count (Keep ok ov) (i + 1) ≤ r).card = j := by
  have hj := pick_lt hok h
  have : ((Finset.univ : Finset (Fin N)).filter fun i : Fin N => Nat.count (Keep ok ov) (i + 1) ≤ r)
      = (Finset.univ : Finset (Fin N)).filter fun i : Fin N => i < (⟨j, hj⟩ : Fin N) := by
    ext i
    simp only [Finset.mem_filter, Finset.mem_univ, true_and, Fin.lt_def]
    constructor
    · intro hi
      by_contra hlt
      have h₁ : Nat.count (Keep ok ov) (j + 1) ≤ Nat.count (Keep ok ov) (i + 1) := Nat.count_monotone _ (by omega)
      rw [Nat.count_succ, if_pos h.1, h.2] at h₁
      omega
    · intro hi
      rw [← h.2]
      exact Nat.count_monotone _ hi
  rw [this, show ((Finset.univ : Finset (Fin N)).filter fun i : Fin N => i < (⟨j, hj⟩ : Fin N)) = Finset.Iio ⟨j, hj⟩ by ext; simp,
    Fin.card_Iio]

/-- How many of the numbers before `j` satisfy `p`, as a sum over the first `N` numbers. -/
theorem sum_count (p : ℕ → Prop) [DecidablePred p] (N j : ℕ) (hj : j ≤ N) :
    (∑ x : Fin N, if p x ∧ (x : ℕ) < j then 1 else 0) = Nat.count p j := by
  have : ∀ M, (∑ x : Fin M, if p x ∧ (x : ℕ) < j then 1 else 0) = Nat.count p (min j M) := by
    intro M
    induction M with
    | zero => simp
    | succ M ih =>
      rw [Fin.sum_univ_castSucc]
      simp only [Fin.val_castSucc, Fin.val_last]
      rw [ih]
      rcases Nat.lt_or_ge M j with h | h
      · rw [Nat.min_eq_right h.le, Nat.min_eq_right (show M + 1 ≤ j from h), Nat.count_succ]
        simp only [h, and_true]
      · rw [Nat.min_eq_left h, Nat.min_eq_left (by omega), if_neg (by omega), Nat.add_zero]
  rw [this, Nat.min_eq_left hj]

/-- Box `n` of the two thousand boxes `b` is valid in an image of width `W` and height `H`; beyond them there is none. -/
def Ok (b : Fin 2000 → Box) (W H : EReal) (n : ℕ) : Prop := ∃ h : n < 2000, Valid (b ⟨n, h⟩) W H

/-- Boxes `i` and `j` overlap too much. -/
def Ov (b : Fin 2000 → Box) (i j : ℕ) : Prop := ∃ (hi : i < 2000) (hj : j < 2000), Over (b ⟨i, hi⟩) (b ⟨j, hj⟩)

theorem ok_lt {b : Fin 2000 → Box} {W H : EReal} (n : ℕ) (h : Ok b W H n) : n < 2000 := h.1

/-- Column `k` of a result row: the image's number, the corners, the score. -/
def entry (img : EReal) (b : Box) (s : EReal) : ℕ → EReal
  | 0 => img
  | 1 => b.x1
  | 2 => b.y1
  | 3 => b.x2
  | 4 => b.y2
  | 5 => s
  | _ => 0

/-- Column `k` of result row `r` of an image: the kept box number `r` if there is one, zero otherwise. -/
def row (img : EReal) (b : Fin 2000 → Box) (s : Fin 2000 → EReal) (W H : EReal) (r k : ℕ) : EReal :=
  if h : ∃ j : Fin 2000, Pick (Ok b W H) (Ov b) r j then entry img (b h.choose) (s h.choose) k else 0

/-- What agrees with the kept box number `r` wherever there is one, and is zero otherwise, is the row. -/
theorem eq_row {img : EReal} {b : Fin 2000 → Box} {s : Fin 2000 → EReal} {W H : EReal} {r k : ℕ} {v : EReal}
    (h₁ : ∀ j : Fin 2000, Pick (Ok b W H) (Ov b) r j → v = entry img (b j) (s j) k)
    (h₂ : (¬ ∃ j, Pick (Ok b W H) (Ov b) r j) → v = 0) : v = row img b s W H r k := by
  unfold row
  by_cases h : ∃ j : Fin 2000, Pick (Ok b W H) (Ov b) r j
  · rw [dif_pos h]
    exact h₁ _ h.choose_spec
  · rw [dif_neg h]
    exact h₂ fun ⟨j, hj⟩ => h ⟨⟨j, pick_lt (fun _ h => h.1) hj⟩, hj⟩

/-- Row `r` of image `n` among the rows of both images. -/
def rowOf (n : Fin 2) (r : Fin 1000) : Fin 2000 := ⟨n.val * 1000 + r.val, by omega⟩

theorem rowOf_div (n : Fin 2) (r : Fin 1000) (h) : (⟨(rowOf n r).val / 1000, h⟩ : Fin 2) = n :=
  Fin.ext (by change (n.val * 1000 + r.val) / 1000 = _; omega)

theorem rowOf_mod (n : Fin 2) (r : Fin 1000) (h) : (⟨(rowOf n r).val % 1000, h⟩ : Fin 1000) = r :=
  Fin.ext (by change (n.val * 1000 + r.val) % 1000 = _; omega)

theorem rowOf_surj (R : Fin 2000) : ∃ n r, rowOf n r = R :=
  ⟨⟨R.val / 1000, by omega⟩, ⟨R.val % 1000, by omega⟩, Fin.ext (by change R.val / 1000 * 1000 + R.val % 1000 = _; omega)⟩

theorem ov_symm {b : Fin 2000 → Box} (i j : ℕ) (h : Ov b i j) : Ov b j i := ⟨h.2.1, h.1, over_symm h.2.2⟩

end Greedy

end Cert.Nms

end
-- ==== Proof.KernelIdeal.Boxes.lean ====
/-
  The corners, areas and validity of the boxes inside the body, at one entry: the words that hold them along the lanes (row
  side) and along the sublanes (column side) are the decoded boxes of the launched blocks.
-/
module

public import proofs.«01_k».proof.Proof.KernelIdeal.BodyRun
public import proofs.«01_k».proof.Proof.Spec
public import Idealize.ShloMosaic.Lib.Pipeline.ValueKit
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe

theorem lane_ok (n : Fin 2000) : n.val < 2048 := lt_trans n.isLt (by decide)

/-- The box of lane `j`: the anchors and deltas of a block whose boxes run along the lanes. -/
def rowBox (x0 : FVec Ideal S1x1x3 .f32) (x1 x2 : FVec Ideal S1x4x2048 .f32) (j : Fin 2048) : Nms.Box :=
  Nms.decode (fun k => x1 (ix3 0 k j)) (fun k => x2 (ix3 0 k j)) (x0 (ix3 0 0 1)) (x0 (ix3 0 0 0))

/-- The box of sublane `i`: the anchors and deltas of a block whose boxes run along the sublanes. -/
def colBox (x0 : FVec Ideal S1x1x3 .f32) (x4 x5 : FVec Ideal S1x2048x4 .f32) (i : Fin 2048) : Nms.Box :=
  Nms.decode (fun k => x4 (ix3 0 i k)) (fun k => x5 (ix3 0 i k)) (x0 (ix3 0 0 1)) (x0 (ix3 0 0 0))

variable (c : Dev nD)
  (arg1 : Memref sig .tc .smem S1x1x3 .f32) (harg1 : arg1.IsWhole) (arg2 : Memref sig .tc .vmem S1x4x2048 .f32) (harg2 : arg2.IsWhole)
  (arg3 : Memref sig .tc .vmem S1x4x2048 .f32) (harg3 : arg3.IsWhole)
  (arg5 : Memref sig .tc .vmem S1x2048x4 .f32) (harg5 : arg5.IsWhole) (arg6 : Memref sig .tc .vmem S1x2048x4 .f32) (harg6 : arg6.IsWhole)
  (x0 : FVec Ideal S1x1x3 .f32) (x1 x2 : FVec Ideal S1x4x2048 .f32) (x4 x5 : FVec Ideal S1x2048x4 .f32)

theorem row_x1 (j : Fin 2048) : bodyRun.sl.r_12 (F := Ideal) c arg1 harg1 arg2 harg2 arg3 harg3 x0 x1 x2 (ix2 0 j) = (rowBox x0 x1 x2 j).x1 := by
  unfold bodyRun.sl.r_12 bodyRun.sl.r_1 bodyRun.sl.r_2 bodyRun.sl.r_4 bodyRun.sl.r_6 bodyRun.sl.r_8 rowBox
  simp only [View.readAt_eq_ld, harg1.read_unread, harg2.read_unread, harg3.read_unread]
  pointwise [k0_pay5, k0_pay7, k0_pay9, k0_pay11, k0_pay13, k0_pay14, k0_pay16, k0_pay20, Nms.decode, Nms.lower, Nms.upper, Nms.centre, Nms.span, Nms.side, Nms.half, Nms.two, Nms.top, Nms.area]

theorem row_y1 (j : Fin 2048) : bodyRun.sl.r_13 (F := Ideal) c arg1 harg1 arg2 harg2 arg3 harg3 x0 x1 x2 (ix2 0 j) = (rowBox x0 x1 x2 j).y1 := by
  unfold bodyRun.sl.r_13 bodyRun.sl.r bodyRun.sl.r_3 bodyRun.sl.r_5 bodyRun.sl.r_7 bodyRun.sl.r_9 rowBox
  simp only [View.readAt_eq_ld, harg1.read_unread, harg2.read_unread, harg3.read_unread]
  pointwise [k0_pay6, k0_pay8, k0_pay10, k0_pay12, k0_pay15, k0_pay17, k0_pay21, k0_pay13, k0_pay14, k0_pay16, Nms.decode, Nms.lower, Nms.upper, Nms.centre, Nms.span, Nms.side, Nms.half, Nms.two, Nms.top, Nms.area]

theorem row_x2 (j : Fin 2048) : bodyRun.sl.r_15 (F := Ideal) c arg1 harg1 arg2 harg2 arg3 harg3 x0 x1 x2 (ix2 0 j) = (rowBox x0 x1 x2 j).x2 := by
  unfold bodyRun.sl.r_15 bodyRun.sl.r_10 bodyRun.sl.r_14 bodyRun.sl.r_1 bodyRun.sl.r_2 bodyRun.sl.r_4 bodyRun.sl.r_6 bodyRun.sl.r_8 rowBox
  simp only [View.readAt_eq_ld, harg1.read_unread, harg2.read_unread, harg3.read_unread]
  pointwise [k0_pay5, k0_pay7, k0_pay9, k0_pay11, k0_pay13, k0_pay14, k0_pay16, k0_pay18, k0_pay22, k0_pay23, k0_pay24, Nms.decode, Nms.lower, Nms.upper, Nms.centre, Nms.span, Nms.side, Nms.half, Nms.two, Nms.top, Nms.area]

theorem row_y2 (j : Fin 2048) : bodyRun.sl.r_16 (F := Ideal) c arg1 harg1 arg2 harg2 arg3 harg3 x0 x1 x2 (ix2 0 j) = (rowBox x0 x1 x2 j).y2 := by
  unfold bodyRun.sl.r_16 bodyRun.sl.r bodyRun.sl.r_11 bodyRun.sl.r_3 bodyRun.sl.r_5 bodyRun.sl.r_7 bodyRun.sl.r_9 rowBox
  simp only [View.readAt_eq_ld, harg1.read_unread, harg2.read_unread, harg3.read_unread]
  pointwise [k0_pay6, k0_pay8, k0_pay10, k0_pay12, k0_pay15, k0_pay17, k0_pay19, k0_pay25, k0_pay13, k0_pay14, k0_pay16, k0_pay23, Nms.decode, Nms.lower, Nms.upper, Nms.centre, Nms.span, Nms.side, Nms.half, Nms.two, Nms.top, Nms.area]

theorem col_x1 (i : Fin 2048) : bodyRun.sl.r_27 (F := Ideal) c arg1 harg1 arg5 harg5 arg6 harg6 x0 x4 x5 (ix2 i 0) = (colBox x0 x4 x5 i).x1 := by
  unfold bodyRun.sl.r_27 bodyRun.sl.r_1 bodyRun.sl.r_26 bodyRun.sl.r_19 bodyRun.sl.r_21 colBox
  simp only [View.readAt_eq_ld, harg1.read_unread, harg5.read_unread, harg6.read_unread]
  pointwise [k0_pay30, k0_pay31, k0_pay32, k0_pay33, k0_pay34, k0_pay35, k0_pay36, k0_pay37, k0_pay38, k0_pay39, Nms.decode, Nms.lower, Nms.upper, Nms.centre, Nms.span, Nms.side, Nms.half, Nms.two, Nms.top, Nms.area]

theorem col_y1 (i : Fin 2048) : bodyRun.sl.r_28 (F := Ideal) c arg1 harg1 arg5 harg5 arg6 harg6 x0 x4 x5 (ix2 i 0) = (colBox x0 x4 x5 i).y1 := by
  unfold bodyRun.sl.r_28 bodyRun.sl.r bodyRun.sl.r_23 bodyRun.sl.r_25 bodyRun.sl.r_20 colBox
  simp only [View.readAt_eq_ld, harg1.read_unread, harg5.read_unread, harg6.read_unread]
  pointwise [k0_pay30, k0_pay31, k0_pay32, k0_pay33, k0_pay34, k0_pay35, k0_pay36, k0_pay37, k0_pay38, k0_pay40, Nms.decode, Nms.lower, Nms.upper, Nms.centre, Nms.span, Nms.side, Nms.half, Nms.two, Nms.top, Nms.area]

theorem col_x2 (i : Fin 2048) : bodyRun.sl.r_29 (F := Ideal) c arg1 harg1 arg5 harg5 arg6 harg6 x0 x4 x5 (ix2 i 0) = (colBox x0 x4 x5 i).x2 := by
  unfold bodyRun.sl.r_29 bodyRun.sl.r_1 bodyRun.sl.r_22 bodyRun.sl.r_24 bodyRun.sl.r_19 bodyRun.sl.r_21 colBox
  simp only [View.readAt_eq_ld, harg1.read_unread, harg5.read_unread, harg6.read_unread]
  pointwise [k0_pay30, k0_pay31, k0_pay32, k0_pay33, k0_pay34, k0_pay35, k0_pay36, k0_pay37, k0_pay38, k0_pay41, Nms.decode, Nms.lower, Nms.upper, Nms.centre, Nms.span, Nms.side, Nms.half, Nms.two, Nms.top, Nms.area]

theorem col_y2 (i : Fin 2048) : bodyRun.sl.r_30 (F := Ideal) c arg1 harg1 arg5 harg5 arg6 harg6 x0 x4 x5 (ix2 i 0) = (colBox x0 x4 x5 i).y2 := by
  unfold bodyRun.sl.r_30 bodyRun.sl.r bodyRun.sl.r_23 bodyRun.sl.r_25 bodyRun.sl.r_20 colBox
  simp only [View.readAt_eq_ld, harg1.read_unread, harg5.read_unread, harg6.read_unread]
  pointwise [k0_pay30, k0_pay31, k0_pay32, k0_pay33, k0_pay34, k0_pay35, k0_pay36, k0_pay37, k0_pay38, k0_pay42, Nms.decode, Nms.lower, Nms.upper, Nms.centre, Nms.span, Nms.side, Nms.half, Nms.two, Nms.top, Nms.area]

theorem row_area (j : Fin 2048) : bodyRun.sl.r_17 (F := Ideal) c arg1 harg1 arg2 harg2 arg3 harg3 x0 x1 x2 (ix2 0 j) = Nms.area (rowBox x0 x1 x2 j) := by
  have h : bodyRun.sl.r_17 (F := Ideal) c arg1 harg1 arg2 harg2 arg3 harg3 x0 x1 x2 (ix2 0 j)
      = (bodyRun.sl.r_15 (F := Ideal) c arg1 harg1 arg2 harg2 arg3 harg3 x0 x1 x2 (ix2 0 j) - bodyRun.sl.r_12 (F := Ideal) c arg1 harg1 arg2 harg2 arg3 harg3 x0 x1 x2 (ix2 0 j) + 1)
        * (bodyRun.sl.r_16 (F := Ideal) c arg1 harg1 arg2 harg2 arg3 harg3 x0 x1 x2 (ix2 0 j) - bodyRun.sl.r_13 (F := Ideal) c arg1 harg1 arg2 harg2 arg3 harg3 x0 x1 x2 (ix2 0 j) + 1) := by
    unfold bodyRun.sl.r_17 bodyRun.sl.r_15 bodyRun.sl.r_16
    pointwise [k0_pay28, k0_pay26, k0_pay27]
  rw [h, row_x1, row_y1, row_x2, row_y2]
  rfl

theorem col_area (i : Fin 2048) : bodyRun.sl.r_31 (F := Ideal) c arg1 harg1 arg5 harg5 arg6 harg6 x0 x4 x5 (ix2 i 0) = Nms.area (colBox x0 x4 x5 i) := by
  have h : bodyRun.sl.r_31 (F := Ideal) c arg1 harg1 arg5 harg5 arg6 harg6 x0 x4 x5 (ix2 i 0)
      = (bodyRun.sl.r_29 (F := Ideal) c arg1 harg1 arg5 harg5 arg6 harg6 x0 x4 x5 (ix2 i 0) - bodyRun.sl.r_27 (F := Ideal) c arg1 harg1 arg5 harg5 arg6 harg6 x0 x4 x5 (ix2 i 0) + 1)
        * (bodyRun.sl.r_30 (F := Ideal) c arg1 harg1 arg5 harg5 arg6 harg6 x0 x4 x5 (ix2 i 0) - bodyRun.sl.r_28 (F := Ideal) c arg1 harg1 arg5 harg5 arg6 harg6 x0 x4 x5 (ix2 i 0) + 1) := by
    unfold bodyRun.sl.r_31 bodyRun.sl.r_27 bodyRun.sl.r_28 bodyRun.sl.r_29 bodyRun.sl.r_30
    pointwise [k0_pay43]
  rw [h, col_x1, col_y1, col_x2, col_y2]
  rfl

/-- The float of a one-bit word is one if the bit is set and zero otherwise. -/
theorem sitofp_bit (b : BitVec 1) : FloatOps.sitofp (F := Ideal) .f32 (BitVec.setWidth 32 b) = if b = 1#1 then 1 else 0 := by
  have h : b = 0#1 ∨ b = 1#1 := by revert b; decide
  rcases h with rfl | rfl
  · show (((0 : ℤ) : ℝ) : EReal) = _
    simp
  · show (((1 : ℤ) : ℝ) : EReal) = _
    simp

theorem ofBool_eq_one (p : Prop) [Decidable p] : BitVec.ofBool (decide p) = 1#1 ↔ p := by
  by_cases hp : p <;> simp [hp]

/-- The conjunction of bits is set when all are. -/
theorem andi_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem lane_lt (j : Fin 2048) : IntOp.cmpi .slt (BitVec.ofNat 32 j) 2000#32 = BitVec.ofBool (decide ((j : ℕ) < 2000)) := by
  revert j; decide +kernel

open Classical in
theorem row_valid (j : Fin 2048) : bodyRun.sl.r_18 (F := Ideal) c arg1 harg1 arg2 harg2 arg3 harg3 x0 x1 x2 (ix2 0 j)
    = if Nms.Valid (rowBox x0 x1 x2 j) (x0 (ix3 0 0 1)) (x0 (ix3 0 0 0)) ∧ (j : ℕ) < 2000 then 1 else 0 := by
  have hx := row_x2 c arg1 harg1 arg2 harg2 arg3 harg3 x0 x1 x2 j
  have hy := row_y2 c arg1 harg1 arg2 harg2 arg3 harg3 x0 x1 x2 j
  unfold bodyRun.sl.r_15 at hx
  unfold bodyRun.sl.r_16 at hy
  have hw : bodyRun.sl.r_1 (F := Ideal) c arg1 harg1 x0 = x0 (ix3 0 0 1) := by
    unfold bodyRun.sl.r_1
    rw [View.readAt_eq_ld, harg1.read_unread]
    pointwise
  have hh : bodyRun.sl.r (F := Ideal) c arg1 harg1 x0 = x0 (ix3 0 0 0) := by
    unfold bodyRun.sl.r
    rw [View.readAt_eq_ld, harg1.read_unread]
    pointwise
  unfold bodyRun.sl.r_18 bodyRun.sl.v2
  pointwise [k0_pay29, k0_pay26, k0_pay27]
  rw [lane_lt, andi_bits, andi_bits, andi_bits, andi_bits, sitofp_bit, hx, hy, row_x1, row_y1, hw, hh]
  refine if_congr ?_ rfl rfl
  rw [ofBool_eq_one, Nms.Valid]
  simp only [Nms.side, Nms.two, and_assoc]

end Cert.KernelIdeal.Body

end
-- ==== Proof.KernelIdeal.Mask.lean ====
/-
  The overlap matrix the body stores, tile by tile, as one function of the two boxes' numbers, and the row of invalid lanes the
  suppression starts from.
-/
module

public import proofs.«01_k».proof.Proof.KernelIdeal.Boxes

@[expose] public section

set_option maxRecDepth 16384

noncomputable section

namespace Cert.KernelIdeal.Body

open Cert.KernelIdeal Cert.KernelIdeal.Gen
open Idealize.ShloMosaic Idealize.ShloMosaic.TcCoe
open Classical

/-- One where two different boxes overlap too much, zero elsewhere. -/
def maskOf (x0 : FVec Ideal S1x1x3 .f32) (x1 x2 : FVec Ideal S1x4x2048 .f32) (x4 x5 : FVec Ideal S1x2048x4 .f32) :
    FVec Ideal S2048x2048 .f32 :=
  fun y => if Nms.Over (colBox x0 x4 x5 (y 0)) (rowBox x0 x1 x2 (y 1)) ∧ (y 0).val ≠ (y 1).val then 1 else 0

/-- Zero where a lane holds a valid box, one elsewhere. -/
def deadOf (x0 : FVec Ideal S1x1x3 .f32) (x1 x2 : FVec Ideal S1x4x2048 .f32) : FVec Ideal S1x2048 .f32 :=
  fun y => if Nms.Valid (rowBox x0 x1 x2 (y 1)) (x0 (ix3 0 0 1)) (x0 (ix3 0 0 0)) ∧ (y 1).val < 2000 then 0 else 1

/-- The test that two numbers differ, the first given as an offset into a tile. -/
theorem ne_bits {a n j : ℕ} (ha : a < 128) (hj : j < 2048) (hn : n < 2048) :
    IntOp.cmpi .ne (IntOp.addi (BitVec.ofNat 32 a) (BitVec.ofNat 32 n)) (BitVec.ofNat 32 j)
      = BitVec.ofBool (decide (n + a ≠ j)) := by
  refine congrArg BitVec.ofBool ?_
  have h : BitVec.ofNat 32 a + BitVec.ofNat 32 n = BitVec.ofNat 32 j ↔ n + a = j := by
    rw [← BitVec.ofNat_add, BitVec.toNat_eq, BitVec.toNat_ofNat, BitVec.toNat_ofNat]
    omega
  show (BitVec.ofNat 32 a + BitVec.ofNat 32 n != BitVec.ofNat 32 j) = _
  by_cases hc : n + a = j
  · rw [h.2 hc]; simp [hc]
  · have := mt h.1 hc
    simp [hc, this]

/-- An index of two coordinates, from each of them. -/
theorem ix2_of {m n a b : ℕ} {y : (Shape.mk 2 ![m, n]).Idx} (h0 : (y 0).val = a) (h1 : (y 1).val = b) :
    y = ix2 (⟨a, h0 ▸ (y 0).isLt⟩ : Fin m) (⟨b, h1 ▸ (y 1).isLt⟩ : Fin n) := by
  exact (eq_ix2 y).trans ((ix2_inj _ _ _ _).2 ⟨Fin.ext h0, Fin.ext h1⟩)

theorem one_sub_ite (p : Prop) [Decidable p] : (1 : EReal) - (if p then 1 else 0) = if p then 0 else 1 := by
  by_cases hp : p
  · rw [if_pos hp, if_pos hp, ← EReal.coe_one, ← EReal.coe_sub, sub_self, EReal.coe_zero]
  · rw [if_neg hp, if_neg hp, sub_zero]

variable (c : Dev nD)
  (arg1 : Memref sig .tc .smem S1x1x3 .f32) (harg1 : arg1.IsWhole) (arg2 : Memref sig .tc .vmem S1x4x2048 .f32) (harg2 : arg2.IsWhole)
  (arg3 : Memref sig .tc .vmem S1x4x2048 .f32) (harg3 : arg3.IsWhole)
  (arg5 : Memref sig .tc .vmem S1x2048x4 .f32) (harg5 : arg5.IsWhole) (arg6 : Memref sig .tc .vmem S1x2048x4 .f32) (harg6 : arg6.IsWhole)
  (arg11 : Memref sig .tc .vmem S1x2048 .f32) (harg11 : arg11.IsWhole)
  (x0 : FVec Ideal S1x1x3 .f32) (x1 x2 : FVec Ideal S1x4x2048 .f32) (x4 x5 : FVec Ideal S1x2048x4 .f32)

set_option maxHeartbeats 4000000 in
theorem v958_eq : bodyRun.sl.v958 (F := Ideal) c arg1 harg1 arg2 harg2 arg3 harg3 arg5 harg5 arg6 harg6 arg11 harg11 x0 x1 x2 x4 x5
    = lFinal (F := Ideal) bodyRun.sl.v2 (maskOf x0 x1 x2 x4 x5) (deadOf x0 x1 x2) := by
  unfold bodyRun.sl.v958
  rw [View.readAt_eq_ld, harg11.read_unread]
  funext y
  have e : ∀ (M M' : FVec Ideal S2048x2048 .f32) (s s' : FVec Ideal S1x2048 .f32), M = M' → s = s' →
      lFinal (F := Ideal) bodyRun.sl.v2 M s (ix2 0 (y 1)) = lFinal (F := Ideal) bodyRun.sl.v2 M' s' y := by
    rintro M _ s _ rfl rfl
    refine congrArg _ (funext fun a => Fin.ext ?_)
    have h0 : (y 0).val = 0 := by have := (y 0).isLt; change _ < 1 at this; omega
    fin_cases a
    · exact h0.symm
    · rfl
  pointwise
  refine e _ _ _ _ ?_ ?_
  · funext y
    canon_tiles x h
    all_goals obtain ⟨i, j, rfl⟩ : ∃ (i : Fin 128) (j : Fin 2048), x = ix2 i j := ⟨x 0, x 1, eq_ix2 x⟩
    all_goals pointwise [k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.cst_120, bodyRun.sl.cst_135, bodyRun.sl.v2, bodyRun.sl.v479]
    all_goals
      rw [ne_bits i.isLt j.isLt]
      · rw [andi_bits, sitofp_bit, col_x1, col_y1, col_x2, col_y2, col_area, row_x1, row_y1, row_x2, row_y2, row_area,
          ix2_of h0 h1]
        first
          | exact if_congr (ofBool_eq_one _) rfl rfl
          | simp only [zero_add]
            exact if_congr (ofBool_eq_one _) rfl rfl
      · decide
  · funext y
    canon_tiles x h
    obtain ⟨i, j, rfl⟩ : ∃ (i : Fin 1) (j : Fin 2048), x = ix2 i j := ⟨x 0, x 1, eq_ix2 x⟩
    obtain rfl : i = 0 := Fin.ext (by omega)
    pointwise [k0_pay115]
    rw [ix2_of h0 h1, row_valid]
    exact one_sub_ite _

end Cert.KernelIdeal.Body

end
-- ==== Proof.KernelIdeal.Greedy.lean ====
/-
  The suppression loop, over the extended reals: on the overlap matrix and the row of invalid lanes it leaves, lane by lane,
  whether the box is suppressed by the boxes up to some number `I`, where all have had their turn or a thousand are kept.
-/
module

public import proofs.«01_k».proof.Proof.KernelIdeal.Mask

@[expose] public section

set_option maxRecDepth 16384

noncomputable section

namespace Cert.KernelIdeal.Body

open Cert.KernelIdeal Cert.KernelIdeal.Gen
open Idealize.ShloMosaic Idealize.ShloMosaic.TcCoe
open Classical

/-- The test that two lane numbers are equal. -/
theorem eq_bits (a b : Fin 2048) : IntOp.cmpi .eq (BitVec.ofNat 32 a) (BitVec.ofNat 32 b) = BitVec.ofBool (decide (a = b)) := by
  have h : BitVec.ofNat 32 a = BitVec.ofNat 32 b ↔ a = b := by
    rw [BitVec.toNat_eq, BitVec.toNat_ofNat, BitVec.toNat_ofNat, Fin.ext_iff]
    omega
  show BitVec.ofBool (BitVec.ofNat 32 a == BitVec.ofNat 32 b) = _
  by_cases hc : a = b
  · simp [hc]
  · simp only [hc, decide_false, beq_eq_false_iff_ne.2 (mt h.1 hc)]

/-- Reading lane `n` as a sum over the lanes. -/
theorem pick_lane (n : Fin 2048) (s : FVec Ideal S1x2048 .f32) :
    k0_pay3 (F := Ideal) bodyRun.sl.v2 (BitVec.ofNat 32 n) s = s (ix2 0 n) := by
  unfold bodyRun.sl.v2
  pointwise [k0_pay3]
  simp only [eq_bits, Scalar.select_decide, Finset.sum_ite_eq', Finset.mem_univ, if_true, Finset.sum_const, Finset.card_univ,
    Fintype.card_fin, one_smul]

/-- The row after the boxes before `k` have had their turn: one in the lane of a suppressed box. -/
def supRow (ok : ℕ → Prop) (ov : ℕ → ℕ → Prop) (k : ℕ) : FVec Ideal S1x2048 .f32 :=
  fun y => if Nms.Sup ok ov k (y 1).val then 1 else 0

theorem alive_eq (ok : ℕ → Prop) (ov : ℕ → ℕ → Prop) {n : ℕ} (hn : n < 2000) :
    alive (F := Ideal) bodyRun.sl.v2 n (supRow ok ov n) = BitVec.ofBool (decide (Nms.Keep ok ov n)) := by
  unfold alive
  rw [show BitVec.ofNat 32 n = BitVec.ofNat 32 ((⟨n, by omega⟩ : Fin 2048) : ℕ) from rfl, pick_lane]
  pointwise
  refine congrArg BitVec.ofBool (decide_eq_decide.2 ?_)
  show (if Nms.Sup ok ov n n then (1 : EReal) else 0) = 0 ↔ ¬ Nms.Sup ok ov n n
  by_cases hs : Nms.Sup ok ov n n <;> simp [hs]

/-- Which of the boxes `b` are valid in the image of the block `x0`. -/
abbrev okAt (x0 : FVec Ideal S1x1x3 .f32) (b : Fin 2000 → Nms.Box) : ℕ → Prop := Nms.Ok b (x0 (ix3 0 0 1)) (x0 (ix3 0 0 0))

variable (x0 : FVec Ideal S1x1x3 .f32) (x1 x2 : FVec Ideal S1x4x2048 .f32) (x4 x5 : FVec Ideal S1x2048x4 .f32)
  (b : Fin 2000 → Nms.Box) (hb : ∀ n : Fin 2000, rowBox x0 x1 x2 ⟨n, lane_ok n⟩ = b n ∧ colBox x0 x4 x5 ⟨n, lane_ok n⟩ = b n)

include hb

theorem dead_eq : deadOf x0 x1 x2 = supRow (okAt x0 b) (Nms.Ov b) 0 := by
  funext y
  have hv : (Nms.Valid (rowBox x0 x1 x2 (y 1)) (x0 (ix3 0 0 1)) (x0 (ix3 0 0 0)) ∧ (y 1).val < 2000) ↔ okAt x0 b (y 1).val := by
    constructor
    · rintro ⟨hv, hlt⟩
      exact ⟨hlt, by rw [← (hb ⟨_, hlt⟩).1]; exact hv⟩
    · rintro ⟨hlt, hv⟩
      exact ⟨by rw [← (hb ⟨_, hlt⟩).1] at hv; exact hv, hlt⟩
  unfold deadOf supRow
  by_cases hk : okAt x0 b (y 1).val
  · rw [if_pos (hv.2 hk), if_neg (show ¬ Nms.Sup (okAt x0 b) (Nms.Ov b) 0 (y 1).val from not_not.2 hk)]
  · rw [if_neg (mt hv.1 hk), if_pos (show Nms.Sup (okAt x0 b) (Nms.Ov b) 0 (y 1).val from hk)]

theorem step_eq {n : ℕ} (hn : n < 2000) :
    lStep (F := Ideal) bodyRun.sl.v2 (maskOf x0 x1 x2 x4 x5) n (supRow (okAt x0 b) (Nms.Ov b) n) = supRow (okAt x0 b) (Nms.Ov b) (n + 1) := by
  unfold lStep
  rw [alive_eq _ _ hn]
  have hsucc := Nms.sup_succ (ok := okAt x0 b) (ov := Nms.Ov b) Nms.ov_symm n
  by_cases hk : Nms.Keep (okAt x0 b) (Nms.Ov b) n
  · rw [if_pos (by rw [decide_eq_true hk]; rfl)]
    funext y
    obtain ⟨i, j, rfl⟩ : ∃ (i : Fin 1) (j : Fin 2048), y = ix2 i j := ⟨y 0, y 1, eq_ix2 y⟩
    obtain rfl : i = 0 := Fin.ext (by omega)
    pointwise [k0_pay4]
    show max (if Nms.Sup (okAt x0 b) (Nms.Ov b) n j then (1 : EReal) else 0)
        (if Nms.Over (colBox x0 x4 x5 ⟨n % 2048, _⟩) (rowBox x0 x1 x2 j) ∧ n % 2048 ≠ (j : ℕ) then 1 else 0)
      = if Nms.Sup (okAt x0 b) (Nms.Ov b) (n + 1) j then 1 else 0
    have h01 : max (0 : EReal) 1 = 1 := max_eq_right zero_le_one
    by_cases hs : Nms.Sup (okAt x0 b) (Nms.Ov b) n j
    · rw [if_pos hs, if_pos ((hsucc j).2 (.inl hs))]
      split_ifs
      · exact max_self _
      · rw [max_comm]; exact h01
    · have hj : (j : ℕ) < 2000 := by
        by_contra hj
        exact hs (Nms.Sup.mono (Nat.zero_le n) fun h => hj h.1)
      have hm : n % 2048 = n := Nat.mod_eq_of_lt (by omega)
      have ho : (Nms.Over (colBox x0 x4 x5 ⟨n % 2048, Nat.mod_lt _ (by decide)⟩) (rowBox x0 x1 x2 j) ∧ n % 2048 ≠ (j : ℕ))
          ↔ Nms.Sup (okAt x0 b) (Nms.Ov b) (n + 1) j := by
        have h₁ : colBox x0 x4 x5 ⟨n % 2048, Nat.mod_lt _ (by decide)⟩ = b ⟨n, hn⟩ := by
          rw [← (hb ⟨n, hn⟩).2]
          exact congrArg _ (Fin.ext hm)
        have h₂ : rowBox x0 x1 x2 j = b ⟨j, hj⟩ := by
          rw [← (hb ⟨j, hj⟩).1]
        rw [hsucc, h₁, h₂, hm]
        exact ⟨fun h => .inr ⟨⟨hn, hj, h.1⟩, h.2, hk⟩, fun h => ⟨(h.resolve_left hs).1.2.2, (h.resolve_left hs).2.1⟩⟩
      rw [if_neg hs, if_congr ho rfl rfl]
      split_ifs
      · exact h01
      · exact max_self _
  · rw [if_neg (by rw [decide_eq_false hk]; decide)]
    funext y
    refine if_congr ?_ rfl rfl
    rw [hsucc]
    exact ⟨.inl, fun h => h.resolve_right fun h => hk h.2.2⟩

theorem count_eq {n : ℕ} (hn : n < 2000) :
    lCount (F := Ideal) bodyRun.sl.v2 n (supRow (okAt x0 b) (Nms.Ov b) n) (BitVec.ofNat 32 (Nat.count (Nms.Keep (okAt x0 b) (Nms.Ov b)) n))
      = BitVec.ofNat 32 (Nat.count (Nms.Keep (okAt x0 b) (Nms.Ov b)) (n + 1)) := by
  unfold lCount
  rw [alive_eq _ _ hn, Nat.count_succ]
  by_cases hk : Nms.Keep (okAt x0 b) (Nms.Ov b) n
  · simp only [hk, decide_true, if_true]
    exact addi_succ _
  · simp only [hk, decide_false, if_false]
    show _ + 0#32 = _
    simp

theorem lRun_eq (k n : ℕ) (hkn : k + n = 2000) (hc : Nat.count (Nms.Keep (okAt x0 b) (Nms.Ov b)) n ≤ 1000) :
    ∃ I, (I = 2000 ∨ Nat.count (Nms.Keep (okAt x0 b) (Nms.Ov b)) I = 1000) ∧
      lRun (F := Ideal) bodyRun.sl.v2 (maskOf x0 x1 x2 x4 x5) k n (BitVec.ofNat 32 (Nat.count (Nms.Keep (okAt x0 b) (Nms.Ov b)) n)) (supRow (okAt x0 b) (Nms.Ov b) n)
        = supRow (okAt x0 b) (Nms.Ov b) I := by
  induction k generalizing n with
  | zero => exact ⟨n, .inl (by omega), rfl⟩
  | succ k ih =>
    unfold lRun
    have hslt : Scalar.cmpi .slt (BitVec.ofNat 32 (Nat.count (Nms.Keep (okAt x0 b) (Nms.Ov b)) n)) 1000#32
        = BitVec.ofBool (decide (Nat.count (Nms.Keep (okAt x0 b) (Nms.Ov b)) n < 1000)) := by
      refine congrArg BitVec.ofBool ?_
      rw [BitVec.slt, toInt_ofNat _ (by omega)]
      exact decide_eq_decide.2 (by show _ < ((1000 : ℕ) : ℤ) ↔ _; omega)
    rw [hslt]
    by_cases hlt : Nat.count (Nms.Keep (okAt x0 b) (Nms.Ov b)) n < 1000
    · rw [if_pos ((ofBool_eq_one _).2 hlt), count_eq x0 x1 x2 x4 x5 b hb (by omega), step_eq x0 x1 x2 x4 x5 b hb (by omega)]
      refine ih (n + 1) (by omega) ?_
      rw [Nat.count_succ]
      split_ifs <;> omega
    · rw [if_neg (mt (ofBool_eq_one _).1 hlt)]
      exact ⟨n, .inr (by omega), rfl⟩

/-- What the loop leaves. -/
theorem lFinal_eq : ∃ I, (I = 2000 ∨ Nat.count (Nms.Keep (okAt x0 b) (Nms.Ov b)) I = 1000) ∧
    lFinal (F := Ideal) bodyRun.sl.v2 (maskOf x0 x1 x2 x4 x5) (deadOf x0 x1 x2) = supRow (okAt x0 b) (Nms.Ov b) I := by
  rw [dead_eq x0 x1 x2 x4 x5 b hb]
  unfold lFinal
  have := lRun_eq x0 x1 x2 x4 x5 b hb 2000 0 rfl (by rw [Nat.count_zero]; omega)
  rwa [Nat.count_zero] at this

end Cert.KernelIdeal.Body

end
-- ==== Proof.KernelIdeal.Select.lean ====
/-
  The selection of the kept boxes: the product with the one-hot rows adds, for output row `r`, the packed row of the box that is
  kept number `r`, or nothing.
-/
module

public import proofs.«01_k».proof.Proof.KernelIdeal.Greedy

@[expose] public section

set_option maxRecDepth 16384

noncomputable section

namespace Cert.KernelIdeal.Body

open Cert.KernelIdeal Cert.KernelIdeal.Gen
open Idealize.ShloMosaic Idealize.ShloMosaic.TcCoe
open Classical

variable (ok : ℕ → Prop) (ov : ℕ → ℕ → Prop) (I : ℕ)

/-- A lane of the suppression row is zero where the box is not suppressed. -/
theorem supRow_zero (j : Fin 2048) : supRow ok ov I (ix2 0 j) = 0 ↔ ¬ Nms.Sup ok ov I j := by
  show (if Nms.Sup ok ov I j then (1 : EReal) else 0) = 0 ↔ _
  by_cases hs : Nms.Sup ok ov I j <;> simp [hs]

/-- Whether a lane is kept. -/
theorem keep_lane (j : Fin 2048) : k0_pay116 (F := Ideal) (supRow ok ov I) (ix2 0 j) = if ¬ Nms.Sup ok ov I j then 1 else 0 := by
  pointwise [k0_pay116]
  exact if_congr (supRow_zero ok ov I j) rfl rfl

theorem lt_bits (a b : Fin 2048) : IntOp.cmpi .slt (BitVec.ofNat 32 a) (BitVec.ofNat 32 b) = BitVec.ofBool (decide (a.val < b.val)) := by
  refine congrArg BitVec.ofBool ?_
  simp only [BitVec.slt, BitVec.toInt_eq_toNat_cond, BitVec.toNat_ofNat]
  exact decide_eq_decide.2 (by omega)

/-- How many lanes before lane `j` are kept. -/
theorem pos_lane (r : Fin 1024) (j : Fin 2048) :
    k0_pay117 (F := Ideal) (supRow ok ov I) (ix2 r j) = (Nat.count (fun i => ¬ Nms.Sup ok ov I i) j : EReal) := by
  pointwise [k0_pay117, k0_pay116]
  rw [← Nms.sum_count (fun i => ¬ Nms.Sup ok ov I i) 2048 j j.isLt.le, Nat.cast_sum]
  refine Finset.sum_congr rfl fun x _ => ?_
  rw [lt_bits, sitofp_bit, if_congr (supRow_zero ok ov I x) rfl rfl, if_congr (ofBool_eq_one _) rfl rfl]
  by_cases h₁ : Nms.Sup ok ov I x <;> by_cases h₂ : x.val < j.val <;> simp [h₁, h₂]

/-- The number of an output row. -/
theorem row_num (r : Fin 1024) (j : Fin 2048) : k0_pay118 (F := Ideal) (ix2 r j) = ((r : ℕ) : EReal) := by
  pointwise [k0_pay118]
  show (((BitVec.ofNat 32 r).toInt : ℝ) : EReal) = _
  rw [toInt_ofNat _ (by omega)]
  simp

/-- The packed row that output row `r` receives. -/
theorem row_pack {I : ℕ} (hok : ∀ j, ok j → j < 2000) (hI : I = 2000 ∨ Nat.count (Nms.Keep ok ov) I = 1000)
    (d : FVec Ideal S2048x8 .f32) (r : Fin 1024) (hr : r.val < 1000) (k : Fin 8) :
    k0_pay119 (F := Ideal) (k0_pay116 (supRow ok ov I)) (k0_pay117 (supRow ok ov I)) k0_pay118 d (ix2 r k)
      = ∑ x : Fin 2048, if Nms.Pick ok ov r x then d (ix2 x k) else 0 := by
  pointwise [k0_pay119]
  refine Finset.sum_congr rfl fun x _ => ?_
  rw [andi_bits, Scalar.select_decide, pos_lane, row_num, keep_lane]
  refine if_congr ?_ rfl rfl
  rw [← Nms.pick_of_stop hok hI r x hr, Nat.cast_inj, and_comm]
  refine and_congr_left fun _ => ?_
  by_cases hs : Nms.Sup ok ov I x <;> simp [hs]

variable {ok ov I}

/-- Summing over the boxes that are kept number `r` reads that box, -/
theorem sum_pick {r : ℕ} {j : Fin 2048} (h : Nms.Pick ok ov r j) (f : Fin 2048 → EReal) :
    (∑ x : Fin 2048, if Nms.Pick ok ov r x then f x else 0) = f j := by
  rw [Finset.sum_eq_single j, if_pos h]
  · intro x _ hx
    exact if_neg fun h' => hx (Fin.ext (Nms.pick_unique h' h))
  · exact fun h => absurd (Finset.mem_univ _) h

/-- or nothing. -/
theorem sum_no_pick {r : ℕ} (h : ¬ ∃ j, Nms.Pick ok ov r j) (f : Fin 2048 → EReal) :
    (∑ x : Fin 2048, if Nms.Pick ok ov r x then f x else 0) = 0 :=
  Finset.sum_eq_zero fun x _ => if_neg fun h' => h ⟨x, h'⟩

end Cert.KernelIdeal.Body

end
-- ==== Proof.KernelIdeal.Out.lean ====
/-
  The result's block at one entry: its row `r` holds the image's number, the corners and the score of the box that is kept number
  `r`, or zeros.
-/
module

public import proofs.«01_k».proof.Proof.KernelIdeal.Select
public import proofs.«01_k».proof.Proof.KernelIdeal.Run

@[expose] public section

set_option maxRecDepth 16384

noncomputable section

namespace Cert.KernelIdeal.Body

open Cert.KernelIdeal Cert.KernelIdeal.Gen
open Idealize.ShloMosaic Idealize.ShloMosaic.TcCoe
open Classical

variable (c : Dev nD) (i : grid0.Coords)
  (arg1 : Memref sig .tc .smem S1x1x3 .f32) (harg1 : arg1.IsWhole) (arg2 : Memref sig .tc .vmem S1x4x2048 .f32) (harg2 : arg2.IsWhole)
  (arg3 : Memref sig .tc .vmem S1x4x2048 .f32) (harg3 : arg3.IsWhole) (arg4 : Memref sig .tc .vmem S1x1x2048 .f32) (harg4 : arg4.IsWhole)
  (arg5 : Memref sig .tc .vmem S1x2048x4 .f32) (harg5 : arg5.IsWhole) (arg6 : Memref sig .tc .vmem S1x2048x4 .f32) (harg6 : arg6.IsWhole)
  (arg7 : Memref sig .tc .vmem S1x2048x1 .f32) (harg7 : arg7.IsWhole) (arg8 : Memref sig .tc .vmem S1x1024x8 .f32) (harg8 : arg8.IsWhole)
  (arg9 : Memref sig .tc .vmem S2048x2048 .f32) (harg9 : arg9.IsWhole) (arg10 : Memref sig .tc .vmem S2048x8 .f32) (harg10 : arg10.IsWhole)
  (arg11 : Memref sig .tc .vmem S1x2048 .f32) (harg11 : arg11.IsWhole)
  (x0 : FVec Ideal S1x1x3 .f32) (x1 x2 : FVec Ideal S1x4x2048 .f32) (x3 : FVec Ideal S1x1x2048 .f32) (x4 x5 : FVec Ideal S1x2048x4 .f32) (x6 : FVec Ideal S1x2048x1 .f32)

/-- The packed row of a box with its score: corners, score, one, zeros. -/
def packed (b : Nms.Box) (s : EReal) : ℕ → EReal
  | 0 => b.x1
  | 1 => b.y1
  | 2 => b.x2
  | 3 => b.y2
  | 4 => s
  | 5 => 1
  | _ => 0

theorem v982_eq (j : Fin 2048) (k : Fin 8) :
    bodyRun.sl.v982 (F := Ideal) c arg1 harg1 arg5 harg5 arg6 harg6 arg7 harg7 arg10 x0 x4 x5 x6 (ix2 j k)
      = packed (colBox x0 x4 x5 j) (x6 (ix3 0 j 0)) k := by
  have cov := View.cover_of_tiledBy (Val := Elt Ideal) (s := S2048x8) (e := .f32)
    [⟨Rect.unit ![0, 6] S2048x2.size inb_S2048x8_S2048x2_0_6, k0_pay50 (F := Ideal)⟩,
      ⟨Rect.unit ![0, 5] S2048x1.size inb_S2048x8_S2048x1_0_5, k0_pay49 (F := Ideal)⟩,
      ⟨Rect.unit ![0, 4] S2048x1.size inb_S2048x8_S2048x1_0_4,
        k0_pay48 (F := Ideal) (View.readAt (Elt Ideal) arg7.view (Rect.unit ![0, 0, 0] S1x2048x1.size inb_S1x2048x1_S1x2048x1_0_0_0).toLoadRect (harg7.unread x6))⟩,
      ⟨Rect.unit ![0, 3] S2048x1.size inb_S2048x8_S2048x1_0_3, k0_pay47 (F := Ideal) (bodyRun.sl.r_30 (F := Ideal) c arg1 harg1 arg5 harg5 arg6 harg6 x0 x4 x5)⟩,
      ⟨Rect.unit ![0, 2] S2048x1.size inb_S2048x8_S2048x1_0_2, k0_pay46 (F := Ideal) (bodyRun.sl.r_29 (F := Ideal) c arg1 harg1 arg5 harg5 arg6 harg6 x0 x4 x5)⟩,
      ⟨Rect.unit ![0, 1] S2048x1.size inb_S2048x8_S2048x1_0_1, k0_pay45 (F := Ideal) (bodyRun.sl.r_28 (F := Ideal) c arg1 harg1 arg5 harg5 arg6 harg6 x0 x4 x5)⟩,
      ⟨Rect.unit ![0, 0] S2048x1.size inb_S2048x8_S2048x1_0_0, bodyRun.sl.r_32 (F := Ideal) c arg1 harg1 arg5 harg5 arg6 harg6 x0 x4 x5⟩] ![2048, 1] (by sl_kernel_rfl)
  have e0 : ∀ a : Fin 2048, bodyRun.sl.r_32 (F := Ideal) c arg1 harg1 arg5 harg5 arg6 harg6 x0 x4 x5 (ix2 a 0) = bodyRun.sl.r_27 (F := Ideal) c arg1 harg1 arg5 harg5 arg6 harg6 x0 x4 x5 (ix2 a 0) := by
    intro a
    unfold bodyRun.sl.r_32 bodyRun.sl.r_27
    pointwise [k0_pay44, k0_pay39]
  unfold bodyRun.sl.v982
  rw [View.readCov_eq_canon_ld _ _ _ cov]
  pointwise
  canon_tiles x h using (cov _)
  all_goals obtain ⟨a, d, rfl⟩ : ∃ a d, x = ix2 a d := ⟨x 0, x 1, eq_ix2 x⟩
  all_goals clear cov
  all_goals pointwise [k0_pay45, k0_pay46, k0_pay47, k0_pay48, k0_pay49, k0_pay50]
  all_goals obtain rfl : j = a := Fin.ext h0
  · have hk : (k : ℕ) = 6 + d := h1
    rcases (by omega : (k : ℕ) = 6 ∨ (k : ℕ) = 7) with e | e <;> rw [e] <;> rfl
  all_goals obtain rfl : d = 0 := Subsingleton.elim _ _
  · rw [show (k : ℕ) = 5 from h1]; rfl
  · rw [show (k : ℕ) = 4 from h1, View.readAt_eq_ld, harg7.read_unread]
    pointwise [packed]
  · rw [show (k : ℕ) = 3 from h1, col_y2]; rfl
  · rw [show (k : ℕ) = 2 from h1, col_x2]; rfl
  · rw [show (k : ℕ) = 1 from h1, col_y1]; rfl
  · rw [show (k : ℕ) = 0 from h1, e0, col_x1]; rfl

/-- A row of the result from the packed sums `P`: the image's number where a box was found, corners, score, zeros. -/
def outRow (img : EReal) (P : ℕ → EReal) : ℕ → EReal
  | 0 => img * P 5
  | k + 1 => if k < 5 then P k else 0

variable (b : Fin 2000 → Nms.Box) (hb : ∀ n : Fin 2000, rowBox x0 x1 x2 ⟨n, lane_ok n⟩ = b n ∧ colBox x0 x4 x5 ⟨n, lane_ok n⟩ = b n)

include hb

set_option maxHeartbeats 1600000 in
theorem out_eq (r : Fin 1024) (hr : r.val < 1000) (k : Fin 8) :
    View.canon (bodyRun (F := Ideal) c i arg1 harg1 arg2 harg2 arg3 harg3 arg4 harg4 arg5 harg5 arg6 harg6 arg7 harg7 arg8 harg8 arg9 harg9 arg10 harg10 arg11 harg11 x0 x1 x2 x3 x4 x5 x6).1 (ix3 0 r k)
      = outRow ((BitVec.ofNat 32 (i 0)).toInt : ℝ)
          (fun k => ∑ x : Fin 2048, if Nms.Pick (okAt x0 b) (Nms.Ov b) r x then packed (colBox x0 x4 x5 x) (x6 (ix3 0 x 0)) k else 0) k := by
  have pk : ∀ (r' : Fin 1024) (k' : Fin 8), r' = r →
      k0_pay119 (F := Ideal) (k0_pay116 (bodyRun.sl.v958 c arg1 harg1 arg2 harg2 arg3 harg3 arg5 harg5 arg6 harg6 arg11 harg11 x0 x1 x2 x4 x5))
          (k0_pay117 (bodyRun.sl.v958 c arg1 harg1 arg2 harg2 arg3 harg3 arg5 harg5 arg6 harg6 arg11 harg11 x0 x1 x2 x4 x5))
          k0_pay118 (bodyRun.sl.v982 c arg1 harg1 arg5 harg5 arg6 harg6 arg7 harg7 arg10 x0 x4 x5 x6) (ix2 r' k')
        = ∑ x : Fin 2048, if Nms.Pick (okAt x0 b) (Nms.Ov b) r x then packed (colBox x0 x4 x5 x) (x6 (ix3 0 x 0)) k' else 0 := by
    rintro r' k' rfl
    obtain ⟨I, hI, hl⟩ := lFinal_eq x0 x1 x2 x4 x5 b hb
    rw [v958_eq, hl, row_pack _ _ (fun j hj => hj.1) hI _ r' hr]
    simp only [v982_eq]
  clear hb
  have cov := View.cover_of_tiledBy (bodyRun (F := Ideal) c i arg1 harg1 arg2 harg2 arg3 harg3 arg4 harg4 arg5 harg5 arg6 harg6 arg7 harg7 arg8 harg8 arg9 harg9 arg10 harg10 arg11 harg11 x0 x1 x2 x3 x4 x5 x6).1 ![1, 1024, 1] (by sl_kernel_rfl)
  unfold bodyRun at cov ⊢
  dsimp only at cov ⊢
  canon_tiles x h using (cov _)
  all_goals obtain ⟨a, r', d, rfl⟩ : ∃ a r' d, x = ix3 a r' d := ⟨x 0, x 1, x 2, eq_ix3 x⟩
  all_goals clear cov
  all_goals pointwise [k0_pay2, k0_pay1, k0_pay120, k0_pay121, k0_pay122, bodyRun.sl.r_81, bodyRun.sl.r_82, bodyRun.sl.r_83]
  all_goals have er : r' = r := Fin.ext h1.symm
  · have hk : (k : ℕ) = (5 + d) + 1 := by change (k : ℕ) = 6 + d at h2; omega
    rw [hk]
    exact (if_neg (by omega)).symm
  · have hk : (k : ℕ) = 4 + 1 := by change (k : ℕ) = 5 + d at h2; omega
    rw [hk, pk _ _ er]
    rfl
  · have hk : (k : ℕ) = d + 1 := by change (k : ℕ) = 1 + d at h2; omega
    rw [hk, pk _ _ er]
    exact (if_pos (by omega)).symm
  · have hk : (k : ℕ) = 0 := by change (k : ℕ) = d at h2; omega
    rw [hk, pk _ _ er]
    rfl

end Cert.KernelIdeal.Body

end
-- ==== Proof.KernelIdeal.Entry.lean ====
/-
  What the region finds in its arrays, read at an index: the chosen anchors, their deltas and scores, padded and laid out both
  ways.
-/
module

public import proofs.«01_k».proof.Proof.KernelIdeal.Out
public import Idealize.ShloMosaic.Lib.StableHlo.ReadAt

@[expose] public section

set_option maxRecDepth 16384

noncomputable section

namespace Cert.KernelIdeal.Body

open Cert.KernelIdeal Cert.KernelIdeal.Gen
open Idealize.ShloMosaic Idealize.ShloMosaic.TcCoe
open Idealize.ShloMosaic.StableHlo (after)

variable (m : (ℓ : Loc nD τ sig) → Buf (Elt Ideal) ℓ) (c : Dev nD)

/-- The contents once the boxes are chosen: anchors and deltas gathered in the order of the scores. -/
def W1 : Valuation τ sig (Elt Ideal) := after (hostOps0 ++ hostOps0_1) (fun b => m (c, b))

theorem V0_split : V0 m c = after (List.flatten [hostOps0_2, hostOps0_3, hostOps0_4, hostOps0_5, hostOps0_6, hostOps0_7, hostOps0_8]) (W1 m c) := by
  unfold V0 W1
  rw [← Idealize.ShloMosaic.StableHlo.after_append]
  rfl

abbrev selA : FVec Ideal S2x2000x4 .f32 := W1 m c (Proc.devRef .tc main_v11)
abbrev selD : FVec Ideal S2x2000x4 .f32 := W1 m c (Proc.devRef .tc main_v13)
abbrev selS : FVec Ideal S2x2000 .f32 := W1 m c (Proc.devRef .tc main_values)

theorem V_anchors (n : Fin 2) (j : Fin 2000) (k : Fin 4) :
    (V m c main_v14 : FVec Ideal S2x2048x4 .f32) (ix3 n ⟨j, lane_ok j⟩ k) = selA m c (ix3 n j k) := by
  unfold V selA
  rw [V0_split]
  generalize W1 m c = X
  after_reads_at

theorem V_deltas (n : Fin 2) (j : Fin 2000) (k : Fin 4) :
    (V m c main_v15 : FVec Ideal S2x2048x4 .f32) (ix3 n ⟨j, lane_ok j⟩ k) = selD m c (ix3 n j k) := by
  unfold V selD
  rw [V0_split]
  generalize W1 m c = X
  after_reads_at

theorem V_anchorsT (n : Fin 2) (j : Fin 2000) (k : Fin 4) :
    (V m c main_v17 : FVec Ideal S2x4x2048 .f32) (ix3 n k ⟨j, lane_ok j⟩) = selA m c (ix3 n j k) := by
  unfold V selA
  rw [V0_split]
  generalize W1 m c = X
  after_reads_at

theorem V_deltasT (n : Fin 2) (j : Fin 2000) (k : Fin 4) :
    (V m c main_v18 : FVec Ideal S2x4x2048 .f32) (ix3 n k ⟨j, lane_ok j⟩) = selD m c (ix3 n j k) := by
  unfold V selD
  rw [V0_split]
  generalize W1 m c = X
  after_reads_at

theorem V_scores (n : Fin 2) (j : Fin 2000) :
    (V m c main_v20 : FVec Ideal S2x2048x1 .f32) (ix3 n ⟨j, lane_ok j⟩ 0) = selS m c (ix2 n j) := by
  unfold V selS
  rw [V0_split]
  generalize W1 m c = X
  after_reads_at

/-- The image sizes as launched. -/
abbrev info : FVec Ideal S2x3 .f32 := m ((c : Thread nD τ).loc main_arg2)

theorem W1_info : W1 m c (Proc.devRef .tc main_arg2) = info m c := by
  unfold W1
  after_reads_simp

theorem V_info (n : Fin 2) (k : Fin 3) : (V m c main_v21 : FVec Ideal S2x1x3 .f32) (ix3 n 0 k) = info m c (ix2 n k) := by
  rw [← W1_info]
  unfold V
  rw [V0_split]
  generalize W1 m c = X
  after_reads_at

/-- The region's point of an image. -/
def pt (n : Fin 2) : Fin (cfg0 (F := Ideal)).N := ⟨n, n.isLt.trans_eq (by decide +kernel)⟩

theorem idx : ∀ t : Fin (cfg0 (F := Ideal)).N, (win0_0.index t = ![t.val, 0, 0] ∧ win0_1.index t = ![t.val, 0, 0] ∧ win0_2.index t = ![t.val, 0, 0]
    ∧ win0_4.index t = ![t.val, 0, 0] ∧ win0_5.index t = ![t.val, 0, 0] ∧ win0_6.index t = ![t.val, 0, 0] ∧ win0_7.index t = ![t.val, 0, 0]) ∧ (grid0.coords t 0).val = t.val :=
  (by decide +kernel : ∀ t : Fin grid0.N, _)

theorem idx_pt (n : Fin 2) : (win0_0.index (pt n) = ![n.val, 0, 0] ∧ win0_1.index (pt n) = ![n.val, 0, 0] ∧ win0_2.index (pt n) = ![n.val, 0, 0]
    ∧ win0_4.index (pt n) = ![n.val, 0, 0] ∧ win0_5.index (pt n) = ![n.val, 0, 0] ∧ win0_6.index (pt n) = ![n.val, 0, 0] ∧ win0_7.index (pt n) = ![n.val, 0, 0]) ∧ (grid0.coords (pt n) 0).val = n.val :=
  idx (pt n)

/-- The region's result array: each image's block is what its point leaves. -/
theorem arr_eq : (dats m 0 c).arrAt 7 (cfgs (F := Ideal) 0).N
    = fun y : S2x1024x8.Idx => outAt m c (pt (y 0)) (ix3 0 (y 1) (y 2)) := by
  refine (dats m 0 c).arrAt_eq_of_covers 7 _ (by decide +kernel) fun t _ y => ?_
  blk_simp
  rw [after7]
  have h0 : (y 0).val < 1 := (y 0).isLt
  have e0 : (((win0_7.blk t).view.emb y) 0).val = t.val := by blk_simp [idx t]
  have ht : pt (((win0_7.blk t).view.emb y) 0) = t := Fin.ext e0
  have hy : ix3 0 (((win0_7.blk t).view.emb y) 1) (((win0_7.blk t).view.emb y) 2) = y := by blk_ext [idx t]
  exact (congrArg₂ (outAt m c) ht hy).symm

/-- The boxes of an image. -/
def boxes (n : Fin 2) (j : Fin 2000) : Nms.Box :=
  Nms.decode (fun k => selA m c (ix3 n j k)) (fun k => selD m c (ix3 n j k)) (info m c (ix2 n 1)) (info m c (ix2 n 0))

theorem blk0 (n : Fin 2) (k : Fin 3) : (iblk m c 0 (pt n) : FVec Ideal S1x1x3 .f32) (ix3 0 0 k) = info m c (ix2 n k) := by
  rw [← V_info]
  blk_ext [iblk, idx_pt n]
theorem blk1 (n : Fin 2) (j : Fin 2000) (k : Fin 4) : (iblk m c 1 (pt n) : FVec Ideal S1x4x2048 .f32) (ix3 0 k ⟨j, lane_ok j⟩) = selA m c (ix3 n j k) := by
  rw [← V_anchorsT]
  blk_ext [iblk, idx_pt n]
theorem blk2 (n : Fin 2) (j : Fin 2000) (k : Fin 4) : (iblk m c 2 (pt n) : FVec Ideal S1x4x2048 .f32) (ix3 0 k ⟨j, lane_ok j⟩) = selD m c (ix3 n j k) := by
  rw [← V_deltasT]
  blk_ext [iblk, idx_pt n]
theorem blk4 (n : Fin 2) (j : Fin 2000) (k : Fin 4) : (iblk m c 4 (pt n) : FVec Ideal S1x2048x4 .f32) (ix3 0 ⟨j, lane_ok j⟩ k) = selA m c (ix3 n j k) := by
  rw [← V_anchors]
  blk_ext [iblk, idx_pt n]
theorem blk5 (n : Fin 2) (j : Fin 2000) (k : Fin 4) : (iblk m c 5 (pt n) : FVec Ideal S1x2048x4 .f32) (ix3 0 ⟨j, lane_ok j⟩ k) = selD m c (ix3 n j k) := by
  rw [← V_deltas]
  blk_ext [iblk, idx_pt n]
theorem blk6 (n : Fin 2) (j : Fin 2000) : (iblk m c 6 (pt n) : FVec Ideal S1x2048x1 .f32) (ix3 0 ⟨j, lane_ok j⟩ 0) = selS m c (ix2 n j) := by
  rw [← V_scores]
  blk_ext [iblk, idx_pt n]

theorem hbox (n : Fin 2) (j : Fin 2000) :
    rowBox (iblk m c 0 (pt n)) (iblk m c 1 (pt n)) (iblk m c 2 (pt n)) ⟨j, lane_ok j⟩ = boxes m c n j
      ∧ colBox (iblk m c 0 (pt n)) (iblk m c 4 (pt n)) (iblk m c 5 (pt n)) ⟨j, lane_ok j⟩ = boxes m c n j := by
  unfold rowBox colBox boxes
  simp only [blk0, blk1, blk2, blk4, blk5, and_self]

/-- The validity and the overlaps of an image's boxes. -/
abbrev okOf (n : Fin 2) : ℕ → Prop := Nms.Ok (boxes m c n) (info m c (ix2 n 1)) (info m c (ix2 n 0))
abbrev ovOf (n : Fin 2) : ℕ → ℕ → Prop := Nms.Ov (boxes m c n)

theorem img_pt (n : Fin 2) : (((BitVec.ofNat 32 (grid0.coords (pt n) 0)).toInt : ℝ) : EReal) = (((BitVec.ofNat 32 n.val).toInt : ℝ) : EReal) := by
  rw [show ((grid0.coords (pt n) 0 : Fin _) : ℕ) = n.val from (idx_pt n).2]

open Classical in
theorem out_row (n : Fin 2) (r : Fin 1000) (k : Fin 8) :
    outAt m c (pt n) (ix3 0 ⟨r, r.isLt.trans (by decide)⟩ k)
      = outRow (((BitVec.ofNat 32 n.val).toInt : ℝ) : EReal) (fun k => ∑ x : Fin 2048, if Nms.Pick (okOf m c n) (ovOf m c n) r x then
          packed (colBox (iblk m c 0 (pt n)) (iblk m c 4 (pt n)) (iblk m c 5 (pt n)) x) ((iblk m c 6 (pt n) : FVec Ideal S1x2048x1 .f32) (ix3 0 x 0)) k else 0) k := by
  unfold outAt
  have h := out_eq c (grid0.coords (pt n)) (ms0 (pt n)) (hstage0_0 (((cfg0 (F := Ideal)).slots (pt n) 0).cast nbuf0_0)) (ms1 (pt n)) (hstage0_1 (((cfg0 (F := Ideal)).slots (pt n) 1).cast nbuf0_1)) (ms2 (pt n)) (hstage0_2 (((cfg0 (F := Ideal)).slots (pt n) 2).cast nbuf0_2)) (ms3 (pt n)) (hstage0_3 (((cfg0 (F := Ideal)).slots (pt n) 3).cast nbuf0_3)) (ms4 (pt n)) (hstage0_4 (((cfg0 (F := Ideal)).slots (pt n) 4).cast nbuf0_4)) (ms5 (pt n)) (hstage0_5 (((cfg0 (F := Ideal)).slots (pt n) 5).cast nbuf0_5)) (ms6 (pt n)) (hstage0_6 (((cfg0 (F := Ideal)).slots (pt n) 6).cast nbuf0_6)) (ms7 (pt n)) (hstage0_7 (((cfg0 (F := Ideal)).slots (pt n) 7).cast nbuf0_7))
    scMask (Memref.isWhole_whole _) scCols (Memref.isWhole_whole _) scSupp (Memref.isWhole_whole _)
    (iblk m c 0 (pt n)) (iblk m c 1 (pt n)) (iblk m c 2 (pt n)) (iblk m c 3 (pt n)) (iblk m c 4 (pt n)) (iblk m c 5 (pt n)) (iblk m c 6 (pt n))
    (boxes m c n) (hbox m c n) ⟨r, r.isLt.trans (by decide)⟩ r.isLt k
  unfold okAt at h
  rw [blk0, blk0, img_pt] at h
  exact h

end Cert.KernelIdeal.Body

end
-- ==== Proof.KernelIdeal.Result.lean ====
/-
  The kernel's two results at an index: row `r` of image `n` is the kept box number `r` of that image, with its score.
-/
module

public import proofs.«01_k».proof.Proof.KernelIdeal.Entry

@[expose] public section

set_option maxRecDepth 16384

noncomputable section

namespace Cert.KernelIdeal.Body

open Cert.KernelIdeal Cert.KernelIdeal.Gen
open Idealize.ShloMosaic Idealize.ShloMosaic.TcCoe
open Idealize.ShloMosaic.StableHlo (after)
open Classical

variable (m : (ℓ : Loc nD τ sig) → Buf (Elt Ideal) ℓ) (c : Dev nD)

/-- An image's number as the programs convert it. -/
abbrev imgOf (n : Fin 2) : EReal := (((BitVec.ofNat 32 n.val).toInt : ℝ) : EReal)

theorem out_spec (n : Fin 2) (r : Fin 1000) (k : Fin 8) :
    outAt m c (pt n) (ix3 0 ⟨r, r.isLt.trans (by decide)⟩ k)
      = Nms.row (imgOf n) (boxes m c n) (fun j => selS m c (ix2 n j)) (info m c (ix2 n 1)) (info m c (ix2 n 0)) r k := by
  rw [out_row]
  refine Nms.eq_row (fun j hj => ?_) fun hj => ?_
  · have hp : ∀ f : Fin 2048 → EReal, _ := fun f => sum_pick (j := ⟨j, lane_ok j⟩) hj f
    have e : ∀ k', (∑ x : Fin 2048, if Nms.Pick (okOf m c n) (ovOf m c n) r x then
          packed (colBox (iblk m c 0 (pt n)) (iblk m c 4 (pt n)) (iblk m c 5 (pt n)) x) ((iblk m c 6 (pt n) : FVec Ideal S1x2048x1 .f32) (ix3 0 x 0)) k' else 0)
        = packed (boxes m c n j) (selS m c (ix2 n j)) k' := fun k' => by
      rw [hp, (hbox m c n j).2, blk6]
    simp only [e]
    rcases k with ⟨k, hk⟩
    interval_cases k <;> simp [outRow, packed, Nms.entry]
  · have e : ∀ k', (∑ x : Fin 2048, if Nms.Pick (okOf m c n) (ovOf m c n) r x then
          packed (colBox (iblk m c 0 (pt n)) (iblk m c 4 (pt n)) (iblk m c 5 (pt n)) x) ((iblk m c 6 (pt n) : FVec Ideal S1x2048x1 .f32) (ix3 0 x 0)) k' else 0)
        = 0 := fun k' => sum_no_pick hj _
    simp only [e]
    rcases k with ⟨k, hk⟩
    interval_cases k <;> simp [outRow]

/-- What the program ends holding in a buffer that no window stages. -/
abbrev fin (b : Ref sig .tc) : Buf (Elt Ideal) ((c : Thread nD τ).loc b) :=
  Pipeline.afterTail₀ (cfgs (F := Ideal)) (dats m) 0 (V0 m) [hostOps1] c b

theorem left_arr : Pipeline.withArrays (cfgs (F := Ideal) 0).spec c (V0 m c) (fun w => (dats m 0 c).arrAt w (cfgs (F := Ideal) 0).N) (Proc.devRef .tc main_v22)
    = fun y : S2x1024x8.Idx => outAt m c (pt (y 0)) (ix3 0 (y 1) (y 2)) :=
  (Pipeline.withArrays_arr _ launch0.win.arr_inj c _ _ 7).trans (arr_eq m c)

theorem fin_boxes (n : Fin 2) (r : Fin 1000) (k : Fin 5) :
    (fin m c main_v24 : FVec Ideal S2000x5 .f32) (ix2 (Nms.rowOf n r) k)
      = Nms.row (imgOf n) (boxes m c n) (fun j => selS m c (ix2 n j)) (info m c (ix2 n 1)) (info m c (ix2 n 0)) r k := by
  have h := left_arr m c
  have e := out_spec m c n r ⟨k, by omega⟩
  unfold fin Pipeline.afterTail₀
  generalize Pipeline.withArrays (cfgs (F := Ideal) 0).spec c (V0 m c) (fun w => (dats m 0 c).arrAt w (cfgs (F := Ideal) 0).N) = X at h ⊢
  refine Eq.trans ?_ e
  after_reads_at
  rw [h]
  change outAt m c (pt ⟨(Nms.rowOf n r).val / 1000, _⟩) (ix3 0 ⟨(Nms.rowOf n r).val % 1000, _⟩ _) = _
  simp only [Nms.rowOf_div]
  congr 2
  exact Fin.ext (show (n.val * 1000 + r.val) % 1000 = r.val by omega)

theorem fin_scores (n : Fin 2) (r : Fin 1000) :
    (fin m c main_v26 : FVec Ideal S2000x1 .f32) (ix2 (Nms.rowOf n r) 0)
      = Nms.row (imgOf n) (boxes m c n) (fun j => selS m c (ix2 n j)) (info m c (ix2 n 1)) (info m c (ix2 n 0)) r 5 := by
  have h := left_arr m c
  have e := out_spec m c n r 5
  unfold fin Pipeline.afterTail₀
  generalize Pipeline.withArrays (cfgs (F := Ideal) 0).spec c (V0 m c) (fun w => (dats m 0 c).arrAt w (cfgs (F := Ideal) 0).N) = X at h ⊢
  refine Eq.trans ?_ e
  after_reads_at
  rw [h]
  change outAt m c (pt ⟨(Nms.rowOf n r).val / 1000, _⟩) (ix3 0 ⟨(Nms.rowOf n r).val % 1000, _⟩ _) = _
  simp only [Nms.rowOf_div]
  congr 2
  exact Fin.ext (show (n.val * 1000 + r.val) % 1000 = r.val by omega)

open Idealize.SL.Sem in
/-- The kernel ends with its two results at what the lines after it make of the output, and its arguments as launched. -/
theorem run_out (ρ : Dev nD → PrngReg) : θ_run (defs (F := Ideal)) (onTc (τ := τ) (main (F := Ideal))) ⟨m, fun _ => 0, ρ⟩ (fun r => ∀ c : Dev nD,
      r.2.mem ((c.tc : Thread nD τ).loc main_v24) = fin m c main_v24
      ∧ r.2.mem ((c.tc : Thread nD τ).loc main_v26) = fin m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c).2 main_v24 (Pipeline.mem_restRefs_of main_v24 (by decide) (by exact (by decide : ∀ w, Pipeline.arrRef spec0 w ≠ main_v24))),
     (h.1 c).2 main_v26 (Pipeline.mem_restRefs_of main_v26 (by decide) (by exact (by decide : ∀ w, Pipeline.arrRef spec0 w ≠ main_v26))),
     h.2 c⟩) (θ_run_and (run m ρ) (frame_of m ρ (dats m) (run m ρ)))

end Cert.KernelIdeal.Body

end
-- ==== Proof.ReferenceIdeal.Boxes.lean ====
/-
  What the reference's loop starts from, read at an index: the decoded boxes, their areas and which of them are valid.
-/
module

public import proofs.«01_k».proof.Proof.ReferenceIdeal.Run
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe
open Idealize.ShloMosaic.StableHlo
open Classical

variable (m : (ℓ : Loc nD τ sig) → Buf (Elt Ideal) ℓ) (c : Dev nD)

/-- The contents once the boxes are chosen: anchors and deltas gathered in the order of the scores. -/
def W1 : Valuation τ sig (Elt Ideal) := after (hostOps0 ++ hostOps0_1) (fun b => m (c, b))

/-- The contents once the boxes are decoded and clipped. -/
def W2 : Valuation τ sig (Elt Ideal) :=
  after (List.flatten [hostOps0_2, hostOps0_3, hostOps0_4, hostOps0_5, hostOps0_6, hostOps0_7, hostOps0_8, hostOps0_9]) (W1 m c)

/-- The contents when the loop is entered. -/
abbrev E0 : Valuation τ sig (Elt Ideal) := entryContents preI m c

theorem E0_split : E0 m c = after hostOps0_10 (W2 m c) := by
  unfold E0 W2 W1 entryContents
  rw [afterL_eq_after_flatten, ← after_append, ← after_append]
  rfl

abbrev selA : FVec Ideal S2x2000x4 .f32 := W1 m c (Proc.devRef .tc main_v10)
abbrev selD : FVec Ideal S2x2000x4 .f32 := W1 m c (Proc.devRef .tc main_v12)
abbrev selS : FVec Ideal S2x2000 .f32 := W1 m c (Proc.devRef .tc main_values)

/-- The image sizes as launched. -/
abbrev info : FVec Ideal S2x3 .f32 := m ((c : Thread nD τ).loc main_arg2)

theorem W1_info : W1 m c (Proc.devRef .tc main_arg2) = info m c := by
  unfold W1
  after_reads_simp

/-- The boxes of an image. -/
def boxes (n : Fin 2) (j : Fin 2000) : Nms.Box :=
  Nms.decode (fun k => selA m c (ix3 n j k)) (fun k => selD m c (ix3 n j k)) (info m c (ix2 n 1)) (info m c (ix2 n 0))

/-- The corners as decoded and clipped. -/
theorem dec (n : Fin 2) (j : Fin 2000) : (W2 m c (Proc.devRef .tc main_v64) : FVec Ideal S2x2000 .f32) (ix2 n j) = (boxes m c n j).x1
    ∧ (W2 m c (Proc.devRef .tc main_v70) : FVec Ideal S2x2000 .f32) (ix2 n j) = (boxes m c n j).y1
    ∧ (W2 m c (Proc.devRef .tc main_v78) : FVec Ideal S2x2000 .f32) (ix2 n j) = (boxes m c n j).x2
    ∧ (W2 m c (Proc.devRef .tc main_v86) : FVec Ideal S2x2000 .f32) (ix2 n j) = (boxes m c n j).y2 := by
  unfold boxes selA selD W2
  rw [← W1_info]
  generalize W1 m c = X
  refine ⟨?_, ?_, ?_, ?_⟩ <;>
  · after_reads_at
    simp only [id_eq]
    pointwise [Nms.decode, Nms.lower, Nms.upper, Nms.centre, Nms.span, Nms.side, Nms.half, Nms.two, Nms.top, Nms.area]

theorem dec_x1 (n : Fin 2) (j : Fin 2000) : (W2 m c (Proc.devRef .tc main_v64) : FVec Ideal S2x2000 .f32) (ix2 n j) = (boxes m c n j).x1 := (dec m c n j).1
theorem dec_y1 (n : Fin 2) (j : Fin 2000) : (W2 m c (Proc.devRef .tc main_v70) : FVec Ideal S2x2000 .f32) (ix2 n j) = (boxes m c n j).y1 := (dec m c n j).2.1
theorem dec_x2 (n : Fin 2) (j : Fin 2000) : (W2 m c (Proc.devRef .tc main_v78) : FVec Ideal S2x2000 .f32) (ix2 n j) = (boxes m c n j).x2 := (dec m c n j).2.2.1
theorem dec_y2 (n : Fin 2) (j : Fin 2000) : (W2 m c (Proc.devRef .tc main_v86) : FVec Ideal S2x2000 .f32) (ix2 n j) = (boxes m c n j).y2 := (dec m c n j).2.2.2

theorem W2_kept (b : Ref sig .tc) (h : b ∉ hostOps0_10_W) : E0 m c (Proc.devRef .tc b) = W2 m c (Proc.devRef .tc b) := by
  rw [E0_split, after_of_writes_sub _ _ hostOps0_10_writes h]

theorem W2_w (n : Fin 2) : (W2 m c (Proc.devRef .tc main_v14) : FVec Ideal S2x1 .f32) (ix2 n 0) = info m c (ix2 n 1) := by
  rw [← W1_info]
  unfold W2
  generalize W1 m c = X
  after_reads_at

theorem W2_h (n : Fin 2) : (W2 m c (Proc.devRef .tc main_v13) : FVec Ideal S2x1 .f32) (ix2 n 0) = info m c (ix2 n 0) := by
  rw [← W1_info]
  unfold W2
  generalize W1 m c = X
  after_reads_at

/-- The corners as the loop carries them. -/
theorem entry (n : Fin 2) (j : Fin 2000) : (E0 m c (Proc.devRef .tc main_v117_1) : FVec Ideal S2x2000 .f32) (ix2 n j) = (boxes m c n j).x1
    ∧ (E0 m c (Proc.devRef .tc main_v117_3) : FVec Ideal S2x2000 .f32) (ix2 n j) = (boxes m c n j).y1
    ∧ (E0 m c (Proc.devRef .tc main_v117_0) : FVec Ideal S2x2000 .f32) (ix2 n j) = (boxes m c n j).x2
    ∧ (E0 m c (Proc.devRef .tc main_v117_2) : FVec Ideal S2x2000 .f32) (ix2 n j) = (boxes m c n j).y2 := by
  rw [← dec_x1, ← dec_x2, ← dec_y1, ← dec_y2, E0_split]
  generalize W2 m c = X
  refine ⟨?_, ?_, ?_, ?_⟩ <;>
  · after_reads_at
    rfl

theorem entry_x1 (n : Fin 2) (j : Fin 2000) : (E0 m c (Proc.devRef .tc main_v117_1) : FVec Ideal S2x2000 .f32) (ix2 n j) = (boxes m c n j).x1 := (entry m c n j).1
theorem entry_y1 (n : Fin 2) (j : Fin 2000) : (E0 m c (Proc.devRef .tc main_v117_3) : FVec Ideal S2x2000 .f32) (ix2 n j) = (boxes m c n j).y1 := (entry m c n j).2.1
theorem entry_x2 (n : Fin 2) (j : Fin 2000) : (E0 m c (Proc.devRef .tc main_v117_0) : FVec Ideal S2x2000 .f32) (ix2 n j) = (boxes m c n j).x2 := (entry m c n j).2.2.1
theorem entry_y2 (n : Fin 2) (j : Fin 2000) : (E0 m c (Proc.devRef .tc main_v117_2) : FVec Ideal S2x2000 .f32) (ix2 n j) = (boxes m c n j).y2 := (entry m c n j).2.2.2

theorem entry_area (n : Fin 2) (j : Fin 2000) : (E0 m c (Proc.devRef .tc main_v117_4) : FVec Ideal S2x2000 .f32) (ix2 n j) = Nms.area (boxes m c n j) := by
  unfold Nms.area Nms.side
  rw [← dec_x1, ← dec_x2, ← dec_y1, ← dec_y2, E0_split]
  generalize W2 m c = X
  after_reads_at
  simp only [id_eq]
  pointwise

theorem entry_iota (j : Fin 2000) : (E0 m c (Proc.devRef .tc main_v117_5) : IVec S2000 32) (ix1 j) = BitVec.ofNat 32 j.val := by
  rw [E0_split]
  generalize W2 m c = X
  after_reads_at
  simp only [id_eq]
  pointwise

/-- The conjunction of bits is set when all are. -/
theorem andi_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem noti_bit (p : Prop) [Decidable p] : ~~~ (BitVec.ofBool (decide p)) = BitVec.ofBool (decide (¬ p)) := by
  by_cases hp : p <;> simp [hp]

theorem ofBool_eq_one (p : Prop) [Decidable p] : BitVec.ofBool (decide p) = 1#1 ↔ p := by
  by_cases hp : p <;> simp [hp]

theorem entry_sup (n : Fin 2) (j : Fin 2000) : (E0 m c (Proc.devRef .tc main_v117_8) : IVec S2x2000 1) (ix2 n j) = 1#1 ↔ ¬ Nms.Valid (boxes m c n j) (info m c (ix2 n 1)) (info m c (ix2 n 0)) := by
  unfold Nms.Valid Nms.side Nms.two
  rw [← dec_x1, ← dec_x2, ← dec_y1, ← dec_y2, ← W2_w, ← W2_h, E0_split]
  generalize W2 m c = X
  after_reads_at
  simp only [id_eq]
  pointwise
  rw [andi_bits, andi_bits, andi_bits, noti_bit, ofBool_eq_one]
  simp only [zero_mul, and_assoc]

theorem entry_keep (n : Fin 2) (j : Fin 2000) : (E0 m c (Proc.devRef .tc main_v117_9) : IVec S2x2000 1) (ix2 n j) = 0#1 := by
  rw [E0_split]
  generalize W2 m c = X
  after_reads_at
  simp only [id_eq]
  pointwise

theorem entry_index : (E0 m c (Proc.devRef .tc main_v117_7) : IVec S_ 32) ix0 = 0#32 := by
  rw [E0_split]
  generalize W2 m c = X
  after_reads_at
  rfl

end Cert.ReferenceIdeal.Val

end
-- ==== Proof.ReferenceIdeal.Greedy.lean ====
/-
  The reference's loop: before turn `k` the suppressed boxes are those that greedy suppression has suppressed after `k` turns,
  and the boxes marked kept are the kept ones before `k`.
-/
module

public import proofs.«01_k».proof.Proof.ReferenceIdeal.Boxes
public import Idealize.ShloMosaic.Lib.DynamicIndex

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe
open Idealize.ShloMosaic.StableHlo
open Classical

/-- Where turn `w` reads and writes: row 0 and column `w` on. -/
abbrev startAt (w : IVec S_ 32) : Fin 2 → ℤ :=
  fun k => ((![constantI S_ 32 0#32, select (cmpi .slt w (constantI S_ 32 0#32)) (addi (id w) (constantI S_ 32 2000#32)) w] : Fin 2 → (⟨S_, .i32⟩ : BufTy).Contents (Elt Ideal)) k (Shape.Idx.first h_S_)).toInt

theorem wrap_index : ∀ i : Fin 2000, (Scalar.select (IntOp.cmpi .slt (BitVec.ofNat 32 i.val) 0#32) (IntOp.addi (BitVec.ofNat 32 i.val) 2000#32) (BitVec.ofNat 32 i.val)).toInt = i.val := by
  decide +kernel

theorem startAt_eq (w : IVec S_ 32) (i : Fin 2000) (hw : w ix0 = BitVec.ofNat 32 i.val) : startAt w = fun a => ((![0, i.val] a : ℕ) : ℤ) := by
  funext a
  have h := wrap_index i
  rw [← hw] at h
  have e : (Shape.Idx.first h_S_ : S_.Idx) = ix0 := funext fun a => a.elim0
  match a with
  | ⟨0, _⟩ => rfl
  | ⟨1, _⟩ =>
    refine Eq.trans ?_ h
    unfold startAt
    rw [e]
    rfl

theorem slice_at {α : Type} (x : S2x2000.Idx → α) (w : IVec S_ 32) (i : Fin 2000) (hw : w ix0 = BitVec.ofNat 32 i.val) :
    Host.dynamicSlice S2x1 x (startAt w) sliceFits_S2x2000_S2x1 = fun y => x (ix2 (y 0) i) := by
  have hs : S2x2000.Slices ![0, i.val] S2x1 := ⟨rfl, fun a => by
    match a with
    | ⟨0, _⟩ => show 0 + 2 ≤ 2; omega
    | ⟨1, _⟩ => exact i.isLt⟩
  rw [Host.dynamicSlice_eq_extractStridedSlice S2x1 x _ ![0, i.val] sliceFits_S2x2000_S2x1 hs (fun a => congrFun (startAt_eq w i hw) a)]
  funext y
  obtain ⟨n, z, rfl⟩ : ∃ (n : Fin 2) (z : Fin 1), y = ix2 n z := ⟨y 0, y 1, eq_ix2 y⟩
  refine congrArg x ?_
  funext a
  refine Fin.ext ?_
  match a with
  | ⟨0, _⟩ => exact Nat.zero_add _
  | ⟨1, _⟩ => show i.val + z.val = i.val; omega

theorem update_at {α : Type} (x : S2x2000.Idx → α) (u : S2x1.Idx → α) (w : IVec S_ 32) (i : Fin 2000) (hw : w ix0 = BitVec.ofNat 32 i.val)
    (n : Fin 2) (j : Fin 2000) :
    Host.dynamicUpdateSlice x u (startAt w) updateFits_S2x2000_S2x1 (ix2 n j) = if j = i then u (ix2 n 0) else x (ix2 n j) := by
  rw [startAt_eq w i hw, Host.dynamicUpdateSlice_apply]
  have h0 : ∀ h, Host.clampedStart S2x2000 S2x1 h (fun a => ((![0, i.val] a : ℕ) : ℤ)) 0 = 0 := fun h =>
    Host.clampedStart_of_le h _ 0 0 rfl (show 0 + 2 ≤ 2 by omega)
  have h1 : ∀ h, Host.clampedStart S2x2000 S2x1 h (fun a => ((![0, i.val] a : ℕ) : ℤ)) 1 = i.val := fun h =>
    Host.clampedStart_of_le h _ 1 i.val rfl i.isLt
  by_cases hj : j = i
  · subst hj
    rw [if_pos rfl, dif_pos (fun a => by
      match a with
      | ⟨0, _⟩ => exact ⟨(h0 rfl).le.trans (Nat.zero_le _), n.isLt.trans_eq (congrArg (· + 2) (h0 rfl)).symm⟩
      | ⟨1, _⟩ => exact ⟨(h1 rfl).le, (Nat.lt_succ_self _).trans_eq (congrArg (· + 1) (h1 rfl)).symm⟩)]
    refine congrArg u ?_
    funext b
    refine Fin.ext ?_
    match b with
    | ⟨0, _⟩ => show n.val - Host.clampedStart S2x2000 S2x1 _ _ 0 = n.val; rw [h0]; rfl
    | ⟨1, _⟩ => show j.val - Host.clampedStart S2x2000 S2x1 _ _ 1 = 0; rw [h1]; exact Nat.sub_self _
  · rw [if_neg hj, dif_neg fun h => hj ?_]
    have := h 1
    rw [h1] at this
    have h2 : i.val ≤ j.val ∧ j.val < i.val + 1 := this
    exact Fin.ext (by omega)

theorem later : ∀ i j : Fin 2000, IntOp.cmpi .sgt (BitVec.ofNat 32 j.val) (BitVec.ofNat 32 i.val) = BitVec.ofBool (decide (i.val < j.val)) := by
  intro i j
  have h : ∀ k : Fin 2000, (BitVec.ofNat 32 k.val).toInt = k.val := by decide +kernel
  show BitVec.ofBool ((BitVec.ofNat 32 i.val).slt (BitVec.ofNat 32 j.val)) = _
  rw [BitVec.slt, h, h]
  simp

/-- What the loop never changes: corners, areas and the boxes' numbers. -/
structure Static (V : Valuation τ sig (Elt Ideal)) (b : Fin 2 → Fin 2000 → Nms.Box) : Prop where
  x2 : ∀ n j, (V (Proc.devRef .tc main_v117_0) : FVec Ideal S2x2000 .f32) (ix2 n j) = (b n j).x2
  x1 : ∀ n j, (V (Proc.devRef .tc main_v117_1) : FVec Ideal S2x2000 .f32) (ix2 n j) = (b n j).x1
  y2 : ∀ n j, (V (Proc.devRef .tc main_v117_2) : FVec Ideal S2x2000 .f32) (ix2 n j) = (b n j).y2
  y1 : ∀ n j, (V (Proc.devRef .tc main_v117_3) : FVec Ideal S2x2000 .f32) (ix2 n j) = (b n j).y1
  ar : ∀ n j, (V (Proc.devRef .tc main_v117_4) : FVec Ideal S2x2000 .f32) (ix2 n j) = Nms.area (b n j)
  io : ∀ j : Fin 2000, (V (Proc.devRef .tc main_v117_5) : IVec S2000 32) (ix1 j) = BitVec.ofNat 32 j.val

variable {V : Valuation τ sig (Elt Ideal)} {b : Fin 2 → Fin 2000 → Nms.Box}

theorem bit_or (x : BitVec 1) (p : Prop) [Decidable p] : IntOp.ori x (BitVec.ofBool (decide p)) = 1#1 ↔ x = 1#1 ∨ p := by
  rcases BitVec.eq_zero_or_eq_one x with rfl | rfl <;> by_cases hp : p <;> simp [hp, IntOp.ori]

theorem bit_not (x : BitVec 1) : ~~~ x = BitVec.ofBool (decide (¬ x = 1#1)) := by
  rcases BitVec.eq_zero_or_eq_one x with rfl | rfl <;> simp

theorem alive_at (i : Fin 2000) (hw : (V (Proc.devRef .tc main_v117_7) : IVec S_ 32) ix0 = BitVec.ofNat 32 i.val) (n : Fin 2) :
    (res_main_while0b_v157 V : IVec S2x1 1) (ix2 n 0) = BitVec.ofBool (decide (¬ (V (Proc.devRef .tc main_v117_8) : IVec S2x2000 1) (ix2 n i) = 1#1)) := by
  unfold res_main_while0b_v157
  erw [slice_at _ _ i hw]
  exact bit_not _

theorem step_sup (hs : Static V b) (i : Fin 2000) (hw : (V (Proc.devRef .tc main_v117_7) : IVec S_ 32) ix0 = BitVec.ofNat 32 i.val) (n : Fin 2) (j : Fin 2000) :
    (step_main_v117_8 V : IVec S2x2000 1) (ix2 n j) = 1#1 ↔ (V (Proc.devRef .tc main_v117_8) : IVec S2x2000 1) (ix2 n j) = 1#1
      ∨ (Nms.Over (b n i) (b n j) ∧ i.val < j.val ∧ ¬ (V (Proc.devRef .tc main_v117_8) : IVec S2x2000 1) (ix2 n i) = 1#1) := by
  have ha := alive_at i hw n
  unfold step_main_v117_8 res_main_while0b_v201
  generalize (res_main_while0b_v157 V : IVec S2x1 1) = A at ha ⊢
  erw [slice_at _ _ i hw, slice_at _ _ i hw, slice_at _ _ i hw, slice_at _ _ i hw, slice_at _ _ i hw]
  simp only [id_eq]
  pointwise
  simp only [hs.x1, hs.x2, hs.y1, hs.y2, hs.ar, hs.io, hw, ha]
  rw [later, andi_bits, andi_bits, bit_or]
  exact or_congr Iff.rfl and_assoc

theorem step_keep (i : Fin 2000) (hw : (V (Proc.devRef .tc main_v117_7) : IVec S_ 32) ix0 = BitVec.ofNat 32 i.val) (n : Fin 2) (j : Fin 2000) :
    (step_main_v117_9 V : IVec S2x2000 1) (ix2 n j) = 1#1 ↔
      if j = i then ¬ (V (Proc.devRef .tc main_v117_8) : IVec S2x2000 1) (ix2 n i) = 1#1 else (V (Proc.devRef .tc main_v117_9) : IVec S2x2000 1) (ix2 n j) = 1#1 := by
  unfold step_main_v117_9
  erw [id_eq, update_at _ _ _ i hw, alive_at i hw]
  split
  · rw [ofBool_eq_one]
  · exact Iff.rfl

variable (m : (ℓ : Loc nD τ sig) → Buf (Elt Ideal) ℓ) (c : Dev nD)

/-- The validity and the overlaps of an image's boxes. -/
abbrev okOf (n : Fin 2) : ℕ → Prop := Nms.Ok (boxes m c n) (info m c (ix2 n 1)) (info m c (ix2 n 0))
abbrev ovOf (n : Fin 2) : ℕ → ℕ → Prop := Nms.Ov (boxes m c n)

/-- What holds of the carried contents before turn `k`. -/
structure Inv (k : ℕ) (V : Valuation τ sig (Elt Ideal)) : Prop where
  st : Static V (boxes m c)
  ix : (V (Proc.devRef .tc main_v117_7) : IVec S_ 32) ix0 = BitVec.ofNat 32 k
  sup : ∀ (n : Fin 2) (j : Fin 2000), (V (Proc.devRef .tc main_v117_8) : IVec S2x2000 1) (ix2 n j) = 1#1 ↔ Nms.Sup (okOf m c n) (ovOf m c n) k j
  keep : ∀ (n : Fin 2) (j : Fin 2000), (V (Proc.devRef .tc main_v117_9) : IVec S2x2000 1) (ix2 n j) = 1#1 ↔ j.val < k ∧ Nms.Keep (okOf m c n) (ovOf m c n) j

theorem zero_ne_one_bit : (0#1 : BitVec 1) ≠ 1#1 := nofun

theorem inv_zero : Inv m c 0 (E0 m c) where
  st := ⟨entry_x2 m c, entry_x1 m c, entry_y2 m c, entry_y1 m c, entry_area m c, entry_iota m c⟩
  ix := entry_index m c
  sup n j := (entry_sup m c n j).trans (not_congr ⟨fun h => ⟨j.isLt, h⟩, fun h => h.2⟩)
  keep n j := by
    rw [entry_keep]
    exact ⟨fun h => absurd h zero_ne_one_bit, fun h => absurd h.1 (Nat.not_lt_zero _)⟩

theorem inv_succ {k : ℕ} (hk : k < 2000) {V : Valuation τ sig (Elt Ideal)} (h : Inv m c k V) : Inv m c (k + 1) (STEP V) where
  st := ⟨fun n j => by rw [STEP_main_v117_0]; exact h.st.x2 n j, fun n j => by rw [STEP_main_v117_1]; exact h.st.x1 n j,
    fun n j => by rw [STEP_main_v117_2]; exact h.st.y2 n j, fun n j => by rw [STEP_main_v117_3]; exact h.st.y1 n j,
    fun n j => by rw [STEP_main_v117_4]; exact h.st.ar n j, fun j => by rw [STEP_main_v117_5]; exact h.st.io j⟩
  ix := by
    rw [STEP_main_v117_7]
    exact (congrArg (· + 1#32) h.ix).trans (BitVec.ofNat_add k 1).symm
  sup n j := by
    rw [STEP_main_v117_8, step_sup h.st ⟨k, hk⟩ h.ix n j, h.sup, h.sup]
    exact or_congr Iff.rfl (and_congr ⟨fun ho => ⟨hk, j.isLt, ho⟩, fun ho => ho.2.2⟩ Iff.rfl)
  keep n j := by
    rw [STEP_main_v117_9, step_keep ⟨k, hk⟩ h.ix n j]
    split
    · next hj =>
      rw [h.sup, hj]
      exact ⟨fun hs => ⟨Nat.lt_succ_self k, hs⟩, fun hs => hs.2⟩
    · next hj =>
      rw [h.keep]
      have : j.val ≠ k := fun e => hj (Fin.ext e)
      exact and_congr (by omega) Iff.rfl

theorem inv : ∀ k, k ≤ 2000 → Inv m c k (STEP^[k] (E0 m c))
  | 0, _ => inv_zero m c
  | k + 1, hk => by
    rw [Function.iterate_succ_apply']
    exact inv_succ m c hk (inv k (by omega))

/-- After the loop exactly the kept boxes are marked. -/
theorem marked (n : Fin 2) (j : Fin 2000) :
    (atK m 2000 c (Proc.devRef .tc main_v117_9) : IVec S2x2000 1) (ix2 n j) = 1#1 ↔ Nms.Keep (okOf m c n) (ovOf m c n) j := by
  rw [atK_agree m c 2000 main_v117_9 (by decide), (inv m c 2000 le_rfl).keep]
  exact ⟨fun h => h.2, fun h => ⟨j.isLt, h⟩⟩

end Cert.ReferenceIdeal.Val

end
-- ==== Proof.ReferenceIdeal.Reads.lean ====
/-
  Three of the reference's operations after the loop, read at an index: the running count along the boxes, the count along the
  boxes of a table of bits, and the two gathers of a row of an image.
-/
module

public import proofs.«01_k».proof.Proof.Gen.ReferenceIdeal
public import Idealize.ShloMosaic.Lib.Routing.Ops
public import Idealize.ShloMosaic.Lib.Pointwise

@[expose] public section

set_option maxRecDepth 16384

noncomputable section

namespace Cert.ReferenceIdeal.Val

open Cert.ReferenceIdeal Cert.ReferenceIdeal.Gen
open Idealize.ShloMosaic Idealize.ShloMosaic.TcCoe

/-- The running sum of one image's row does not look at the other image. -/
theorem window_row (x : IVec S2x2000 32) (init : IVec S_ 32) (n : Fin 2) (j : Fin 2000)
    (h : S2x2000.ReduceWindows (![1, 2000] : Fin 2 → Nat) ![1, 1] ![0, 1999] ![0, 0] S2x2000)
    (h' : (⟨2, ![1, 2000]⟩ : Shape).ReduceWindows (![1, 2000] : Fin 2 → Nat) ![1, 1] ![0, 1999] ![0, 0] ⟨2, ![1, 2000]⟩) :
    Host.reduceWindow IntOp.addi ![1, 2000] ![1, 1] ![0, 1999] ![0, 0] x init h h_S_ (ix2 n j)
      = Host.reduceWindow (s := ⟨2, ![1, 2000]⟩) (t := ⟨2, ![1, 2000]⟩) IntOp.addi ![1, 2000] ![1, 1] ![0, 1999] ![0, 0] (fun y => x (ix2 n (y 1))) init h' h_S_ (ix2 (0 : Fin 1) j) := by
  unfold Host.reduceWindow
  refine congrArg (fun g => List.foldl g _ _) ?_
  funext r w
  refine congrArg (IntOp.addi r) ?_
  have hw : ((⟨2, ![1, 2000]⟩ : Shape).rowMajor.symm w 0).val = 0 := Nat.lt_one_iff.mp ((⟨2, ![1, 2000]⟩ : Shape).rowMajor.symm w 0).isLt
  dsimp only
  split
  · next h₁ =>
    rw [dif_pos (fun a => by
      match a with
      | ⟨0, _⟩ => show 0 ≤ 0 * 1 + ((⟨2, ![1, 2000]⟩ : Shape).rowMajor.symm w 0).val ∧ 0 * 1 + ((⟨2, ![1, 2000]⟩ : Shape).rowMajor.symm w 0).val - 0 < 1; omega
      | ⟨1, _⟩ => exact h₁ 1)]
    refine congrArg x (funext fun a => Fin.ext ?_)
    match a with
    | ⟨0, _⟩ => show n.val * 1 + ((⟨2, ![1, 2000]⟩ : Shape).rowMajor.symm w 0).val - 0 = n.val; omega
    | ⟨1, _⟩ => rfl
  · next h₁ =>
    rw [dif_neg fun h₂ => h₁ fun a => by
      match a with
      | ⟨0, _⟩ => show 0 ≤ n.val * 1 + ((⟨2, ![1, 2000]⟩ : Shape).rowMajor.symm w 0).val ∧ n.val * 1 + ((⟨2, ![1, 2000]⟩ : Shape).rowMajor.symm w 0).val - 0 < 2; omega
      | ⟨1, _⟩ => exact h₂ 1]

theorem sum_range_bits (p : ℕ → Prop) [DecidablePred p] : ∀ n, ((List.range n).map fun i => if p i then 1 else 0).sum = Nat.count p n
  | 0 => by simp
  | n + 1 => by rw [List.range_succ, List.map_append, List.sum_append, sum_range_bits p n, Nat.count_succ]; simp

/-- The running count of the boxes whose bit is set. -/
theorem running_count (x : IVec S2x2000 1) (init : IVec S_ 32) (hi : init ix0 = 0#32) (n : Fin 2) (p : ℕ → Prop) [DecidablePred p]
    (hx : ∀ j : Fin 2000, x (ix2 n j) = 1#1 ↔ p j) (h) (j : Fin 2000) :
    Host.reduceWindow (t := S2x2000) IntOp.addi ![1, 2000] ![1, 1] ![0, 1999] ![0, 0] (extui 32 x natLt_1_32) init h h_S_ (ix2 n j) = BitVec.ofNat 32 (Nat.count p (j + 1)) := by
  rw [window_row _ _ _ _ _ ⟨rfl, fun a => by
    match a with
    | ⟨0, _⟩ => exact ⟨Nat.one_pos, (show 1 ≤ 0 + 1 + 0 from Nat.le_refl 1), (show 1 = (0 + 1 + 0 - 1) / 1 + 1 from rfl)⟩
    | ⟨1, _⟩ => exact ⟨Nat.one_pos, (show 2000 ≤ 1999 + 2000 + 0 by omega), (show 2000 = (1999 + 2000 + 0 - 2000) / 1 + 1 by omega)⟩⟩]
  refine (Routing.cumsum2 (N := 2000) (Nm1 := 1999) rfl _ (fun i => if p i then 1 else 0) (fun i => ?_) init hi _ _ j).trans ?_
  · show BitVec.setWidth 32 (x (ix2 n i)) = _
    by_cases hp : p i
    · rw [if_pos hp, (hx i).2 hp]; rfl
    · rw [if_neg hp, (BitVec.eq_zero_or_eq_one _).resolve_right fun h => hp ((hx i).1 h)]; rfl
  · rw [sum_range_bits]

/-- The number of boxes whose bit is set in row `(n, r)` of a table. -/
theorem table_count (x : IVec S2x1000x2000 1) (n : Fin 2) (r : Fin 1000) (p : Fin 2000 → Prop) [DecidablePred p]
    (hx : ∀ j : Fin 2000, x (ix3 n r j) = 1#1 ↔ p j) :
    (Host.reduce IntOp.addi (extui 32 x natLt_1_32) (constantI S_ 32 0#32) reducesTo_S2x1000x2000_S2x1000_d2 h_S_ (ix2 n r)).toNat = (Finset.univ.filter p).card := by
  have hr : S2x1000x2000.Reduces [2] S2x1000 := by decide
  rw [Host.reduce_eq_fold_single IntOp.addi _ _ _ hr h_S_]
  have hval : ∀ j : Fin 2000, ((extui 32 x natLt_1_32 ∘ hr.lift (ix2 n r)) j).toNat = if p j then 1 else 0 := fun j => by
    have e : hr.lift (ix2 n r) j = ix3 n r j := by
      funext a
      match a with
      | ⟨0, _⟩ => rfl
      | ⟨1, _⟩ => rfl
      | ⟨2, _⟩ => rfl
    refine (StableHlo.Predicate.toNat_setWidth_bit _).trans ?_
    rw [e]
    exact if_congr (hx j) rfl rfl
  have hs : ∑ j : Fin 2000, ((extui 32 x natLt_1_32 ∘ hr.lift (ix2 n r)) j).toNat = (Finset.univ.filter p).card := by
    rw [Finset.card_filter]
    exact Finset.sum_congr rfl fun j _ => hval j
  refine (StableHlo.Predicate.toNat_fold_addi _ _ ?_).trans hs
  exact hs.trans_lt (lt_of_le_of_lt (Finset.card_le_univ _) (by simp))

theorem gather_box {α : Type} (x : S2x2000x5.Idx → α) (idx : IVec S2x1000x1 32) (n : Fin 2) (r : Fin 1000) (k : Fin 5) (j : Fin 2000)
    (h : idx (ix3 n r 0) = BitVec.ofNat 32 j.val) : Host.gather gather_S2x2000x5_S2x1000x1_S2x1000x5_2_1_0_0_1_2_115 x idx (ix3 n r k) = x (ix3 n j k) := by
  refine congrArg x (funext fun a => Fin.ext ?_)
  have hi : (idx (ix3 n r 0)).toInt.toNat = j.val := by rw [h, StableHlo.Predicate.toInt_ofNat_small _ (by omega)]; rfl
  match a with
  | ⟨0, _⟩ => exact Nat.zero_add _
  | ⟨1, _⟩ =>
    show min (idx _).toInt.toNat (2000 - 1) + 0 + 0 = j.val
    have e : ∀ y : S2x1000x1.Idx, y = ix3 n r 0 → min (idx y).toInt.toNat (2000 - 1) + 0 + 0 = j.val := fun y hy => by rw [hy, hi]; omega
    refine e _ (funext fun b => Fin.ext ?_)
    match b with
    | ⟨0, _⟩ => rfl
    | ⟨1, _⟩ => rfl
    | ⟨2, _⟩ => rfl
  | ⟨2, _⟩ => exact Nat.zero_add _

theorem gather_score {α : Type} (x : S2x2000.Idx → α) (idx : IVec S2x1000x1 32) (n : Fin 2) (r : Fin 1000) (j : Fin 2000)
    (h : idx (ix3 n r 0) = BitVec.ofNat 32 j.val) : Host.gather gather_S2x2000_S2x1000x1_S2x1000_n_1_0_0_1_2_11 x idx (ix2 n r) = x (ix2 n j) := by
  refine congrArg x (funext fun a => Fin.ext ?_)
  have hi : (idx (ix3 n r 0)).toInt.toNat = j.val := by rw [h, StableHlo.Predicate.toInt_ofNat_small _ (by omega)]; rfl
  match a with
  | ⟨0, _⟩ => exact Nat.zero_add _
  | ⟨1, _⟩ =>
    show min (idx _).toInt.toNat (2000 - 1) + 0 + 0 = j.val
    have e : ∀ y : S2x1000x1.Idx, y = ix3 n r 0 → min (idx y).toInt.toNat (2000 - 1) + 0 + 0 = j.val := fun y hy => by rw [hy, hi]; omega
    refine e _ (funext fun b => Fin.ext ?_)
    match b with
    | ⟨0, _⟩ => rfl
    | ⟨1, _⟩ => rfl
    | ⟨2, _⟩ => rfl

end Cert.ReferenceIdeal.Val

end
-- ==== Proof.ReferenceIdeal.Picked.lean ====
/-
  After the reference's loop: which box each result row takes, and the two results at an index. Row `r` of image `n` is the kept
  box number `r` of that image, with its score.
-/
module

public import proofs.«01_k».proof.Proof.ReferenceIdeal.Greedy
public import proofs.«01_k».proof.Proof.ReferenceIdeal.Reads

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe
open Idealize.ShloMosaic.StableHlo
open Classical

variable (m : (ℓ : Loc nD τ sig) → Buf (Elt Ideal) ℓ) (c : Dev nD)

/-- An image's number as the programs convert it. -/
abbrev imgOf (n : Fin 2) : EReal := (((BitVec.ofNat 32 n.val).toInt : ℝ) : EReal)

/-- The contents when the loop has ended. -/
def L : Valuation τ sig (Elt Ideal) := after condOps (atK m 2000 c)

/-- The contents once the kept boxes are counted. -/
def P0 : Valuation τ sig (Elt Ideal) := after (List.flatten [hostOps0_11, hostOps0_12]) (L m c)

/-- The contents once each result row has its box's number. -/
def P1 : Valuation τ sig (Elt Ideal) := after hostOps0_13 (P0 m c)

/-- The contents once the boxes of the rows are gathered. -/
def P2 : Valuation τ sig (Elt Ideal) := after (List.flatten [hostOps0_14, hostOps0_15, hostOps0_16]) (P1 m c)

theorem final_split : finalContents condOps preI bodyI postI 2000 m c
    = after (List.flatten [hostOps0_17, hostOps0_18, hostOps0_19, hostOps0_20]) (P2 m c) := by
  show afterL postI (L m c) = _
  unfold P2 P1 P0
  generalize L m c = X
  rw [afterL_eq_after_flatten, ← after_append, ← after_append, ← after_append]
  refine congrArg (fun l => after l X) ?_
  rfl

theorem L_marked (n : Fin 2) (j : Fin 2000) : (L m c (Proc.devRef .tc main_v117_9) : IVec S2x2000 1) (ix2 n j) = 1#1 ↔ Nms.Keep (okOf m c n) (ovOf m c n) j := by
  unfold L
  rw [after_of_writes_sub _ _ condOps_writes (by decide)]
  exact marked m c n j

theorem L_kept (b : Ref sig .tc) (h₁ : b ∉ condOps_W) (h₂ : b ∉ while0Ops0_W) (h₃ : b ∉ hostOps0_10_W) :
    L m c (Proc.devRef .tc b) = W2 m c (Proc.devRef .tc b) := by
  unfold L
  rw [after_of_writes_sub _ _ condOps_writes h₁, atK_kept m c b h₁ h₂]
  exact W2_kept m c b h₃

theorem L_scores : L m c (Proc.devRef .tc main_values) = selS m c := by
  rw [L_kept m c _ (by decide) (by decide) (by decide)]
  unfold W2 selS
  after_reads_simp

theorem P0_iota (r : Fin 1000) : (P0 m c (Proc.devRef .tc main_v118) : IVec S1000 32) (ix1 r) = BitVec.ofNat 32 r := by
  unfold P0
  generalize L m c = X
  after_reads_at

theorem P0_count (n : Fin 2) (j : Fin 2000) : (P0 m c (Proc.devRef .tc main_v120) : IVec S2x2000 32) (ix2 n j)
    = BitVec.ofNat 32 (Nat.count (Nms.Keep (okOf m c n) (ovOf m c n)) (j + 1)) := by
  have h := L_marked m c n
  unfold P0
  generalize L m c = X at h ⊢
  after_reads_simp
  simp -implicitDefEqProofs only [TRef.toBuf, TRef.ofBuf, cast_cast, cast_eq]
  exact running_count _ _ rfl n _ h _ j

theorem P0_scores : P0 m c (Proc.devRef .tc main_values) = selS m c := by
  rw [← L_scores]
  unfold P0
  generalize L m c = X
  after_reads_simp

theorem P0_corner (b : Ref sig .tc) (h₁ : b ∉ condOps_W) (h₂ : b ∉ while0Ops0_W) (h₃ : b ∉ hostOps0_10_W) (h₄ : b ∉ postW) :
    P0 m c (Proc.devRef .tc b) = W2 m c (Proc.devRef .tc b) := by
  rw [← L_kept m c b h₁ h₂ h₃]
  unfold P0
  generalize L m c = X
  refine after_unwritten [main_v118, main_v119, main_call5_call0_c, main_call5_call0_v0, main_v120] rfl (fun h => h₄ ?_) X
  exact (by decide : ∀ x ∈ [main_v118, main_v119, main_call5_call0_c, main_call5_call0_v0, main_v120], x ∈ postW) b h

theorem count_lt (p : ℕ → Prop) [DecidablePred p] (j : Fin 2000) : Nat.count p (j + 1) < 2001 :=
  lt_of_le_of_lt (Nat.count_le _) (show j.val + 1 < 2001 by omega)

/-- Two counts below 2³¹ compare as words the way they compare as numbers. -/
theorem sle_counts {a b : ℕ} (ha : a < 4000) (hb : b < 4000) : IntOp.cmpi .sle (BitVec.ofNat 32 a) (BitVec.ofNat 32 b) = 1#1 ↔ a ≤ b :=
  Predicate.sle_ofNat_iff a b (by omega) (by omega)

theorem slt_counts {a b : ℕ} (ha : a < 4000) (hb : b < 4000) : IntOp.cmpi .slt (BitVec.ofNat 32 a) (BitVec.ofNat 32 b) = 1#1 ↔ a < b :=
  Predicate.slt_ofNat_iff a b (by omega) (by omega)

theorem P1_index (n : Fin 2) (r : Fin 1000) : ((P1 m c (Proc.devRef .tc main_v127) : IVec S2x1000 32) (ix2 n r)).toNat
    = ((Finset.univ : Finset (Fin 2000)).filter fun j : Fin 2000 => Nat.count (Nms.Keep (okOf m c n) (ovOf m c n)) (j + 1) ≤ r).card := by
  have h := P0_count m c n
  have h' := P0_iota m c r
  unfold P1
  generalize P0 m c = X at h h' ⊢
  after_reads_simp
  refine table_count _ n r _ fun j => ?_
  pointwise
  rw [h, h']
  exact sle_counts (by have := count_lt (Nms.Keep (okOf m c n) (ovOf m c n)) j; omega) (by omega)

theorem P1_there (n : Fin 2) (r : Fin 1000) : (P1 m c (Proc.devRef .tc main_v132) : IVec S2x1000 1) (ix2 n r) = 1#1
    ↔ ∃ j, Nms.Pick (okOf m c n) (ovOf m c n) r j := by
  rw [Nms.pick_exists (N := 2000) Nms.ok_lt]
  have h := P0_count m c n 1999
  have h' := P0_iota m c r
  unfold P1
  generalize P0 m c = X at h h' ⊢
  after_reads_at
  rw [h, h']
  exact slt_counts (by omega) (by have := count_lt (Nms.Keep (okOf m c n) (ovOf m c n)) 1999; omega)

theorem P1_box (n : Fin 2) (j : Fin 2000) (k : Fin 5) : (P1 m c (Proc.devRef .tc main_v142) : FVec Ideal S2x2000x5 .f32) (ix3 n j k)
    = Nms.entry (imgOf n) (boxes m c n j) (selS m c (ix2 n j)) k := by
  have h₁ := dec_x1 m c n j
  have h₂ := dec_y1 m c n j
  have h₃ := dec_x2 m c n j
  have h₄ := dec_y2 m c n j
  rw [← P0_corner m c _ (by decide) (by decide) (by decide) (by decide)] at h₁ h₂ h₃ h₄
  unfold P1
  generalize P0 m c = X at h₁ h₂ h₃ h₄ ⊢
  rcases k with ⟨k, hk⟩
  interval_cases k
  all_goals
    after_reads_simp
    pointwise
    rw [unary_result]
    after_reads_at
  exacts [rfl, h₁, h₂, h₃, h₄]

theorem P1_scores : P1 m c (Proc.devRef .tc main_values) = selS m c := by
  rw [← P0_scores]
  unfold P1
  generalize P0 m c = X
  after_reads_simp

/-- The box's number of a result row that has one. -/
theorem P1_pick (n : Fin 2) (r : Fin 1000) (j : Fin 2000) (h : Nms.Pick (okOf m c n) (ovOf m c n) r j) :
    (P1 m c (Proc.devRef .tc main_v127) : IVec S2x1000 32) (ix2 n r) = BitVec.ofNat 32 j := by
  refine BitVec.eq_of_toNat_eq ?_
  rw [P1_index, Nms.pick_index Nms.ok_lt h, BitVec.toNat_ofNat, Nat.mod_eq_of_lt (by omega)]

theorem P1_column (n : Fin 2) (r : Fin 1000) : (P1 m c (Proc.devRef .tc main_v144) : IVec S2x1000x1 32) (ix3 n r 0)
    = (P1 m c (Proc.devRef .tc main_v127) : IVec S2x1000 32) (ix2 n r) := by
  unfold P1
  generalize P0 m c = X
  after_reads_simp
  pointwise

theorem P1_there_column (n : Fin 2) (r : Fin 1000) : (P1 m c (Proc.devRef .tc main_v143) : IVec S2x1000x1 1) (ix3 n r 0)
    = (P1 m c (Proc.devRef .tc main_v132) : IVec S2x1000 1) (ix2 n r) := by
  unfold P1
  generalize P0 m c = X
  after_reads_simp
  pointwise

theorem wrap_word (j : Fin 2000) : Scalar.select (IntOp.cmpi .slt (BitVec.ofNat 32 j.val) 0#32) (IntOp.addi (BitVec.ofNat 32 j.val) 2000#32) (BitVec.ofNat 32 j.val) = BitVec.ofNat 32 j.val := by
  refine BitVec.eq_of_toInt_eq ?_
  rw [wrap_index, Predicate.toInt_ofNat_small _ (by omega)]

/-- Row `r` of image `n` before the results are laid out. -/
theorem P2_boxes (n : Fin 2) (r : Fin 1000) (k : Fin 5) : (P2 m c (Proc.devRef .tc main_v146) : FVec Ideal S2x1000x5 .f32) (ix3 n r k)
    = Nms.row (imgOf n) (boxes m c n) (fun j => selS m c (ix2 n j)) (info m c (ix2 n 1)) (info m c (ix2 n 0)) r k := by
  have hc := P1_column m c n r
  have ht := P1_there_column m c n r
  refine Nms.eq_row (fun j hj => ?_) fun hj => ?_
  · have hb := P1_box m c n j k
    rw [P1_pick m c n r j hj] at hc
    rw [(P1_there m c n r).2 ⟨j, hj⟩] at ht
    rw [← hb]
    unfold P2
    generalize P1 m c = X at hc ht ⊢
    after_reads_simp
    simp -implicitDefEqProofs only [TRef.toBuf, TRef.ofBuf, cast_cast, cast_eq]
    pointwise
    rw [ht, ValueIdx.select_one]
    refine gather_box _ _ n r k j ?_
    pointwise
    rw [hc]
    exact wrap_word j
  · rw [(BitVec.eq_zero_or_eq_one _).resolve_right fun h => hj ((P1_there m c n r).1 h)] at ht
    unfold P2
    generalize P1 m c = X at hc ht ⊢
    after_reads_simp
    simp -implicitDefEqProofs only [TRef.toBuf, TRef.ofBuf, cast_cast, cast_eq]
    simp only [id_eq]
    pointwise
    rw [ht, ValueIdx.select_zero]
/-- The score of row `r` of image `n` before the results are laid out. -/
theorem P2_scores : P2 m c (Proc.devRef .tc main_values) = selS m c := by
  rw [← P1_scores]
  unfold P2
  generalize P1 m c = X
  after_reads_simp

theorem P2_index : P2 m c (Proc.devRef .tc main_v127) = P1 m c (Proc.devRef .tc main_v127) := by
  unfold P2
  generalize P1 m c = X
  after_reads_simp

theorem P2_there : P2 m c (Proc.devRef .tc main_v132) = P1 m c (Proc.devRef .tc main_v132) := by
  unfold P2
  generalize P1 m c = X
  after_reads_simp

/-- What the program ends holding in a buffer. -/
abbrev fin (b : Ref sig .tc) : Buf (Elt Ideal) ((c : Thread nD τ).loc b) :=
  finalContents condOps preI bodyI postI 2000 m c (Proc.devRef .tc b)

theorem fin_boxes (n : Fin 2) (r : Fin 1000) (k : Fin 5) :
    (fin m c main_v149 : FVec Ideal S2000x5 .f32) (ix2 (Nms.rowOf n r) k)
      = Nms.row (imgOf n) (boxes m c n) (fun j => selS m c (ix2 n j)) (info m c (ix2 n 1)) (info m c (ix2 n 0)) r k := by
  rw [← P2_boxes]
  unfold fin
  rw [final_split]
  generalize P2 m c = X
  after_reads_at
  simp only [Nms.rowOf_div, Nms.rowOf_mod]

theorem fin_scores (n : Fin 2) (r : Fin 1000) :
    (fin m c main_v150 : FVec Ideal S2000x1 .f32) (ix2 (Nms.rowOf n r) 0)
      = Nms.row (imgOf n) (boxes m c n) (fun j => selS m c (ix2 n j)) (info m c (ix2 n 1)) (info m c (ix2 n 0)) r 5 := by
  have hs := P2_scores m c
  refine Nms.eq_row (fun j hj => ?_) fun hj => ?_
  · have hi := P1_pick m c n r j hj
    have ht := (P1_there m c n r).2 ⟨j, hj⟩
    rw [← P2_index] at hi
    rw [← P2_there] at ht
    change _ = selS m c (ix2 n j)
    rw [← hs]
    unfold fin
    rw [final_split]
    generalize P2 m c = X at hi ht ⊢
    after_reads_at
    simp only [Nms.rowOf_div, Nms.rowOf_mod]
    rw [ht, ValueIdx.select_one]
    refine gather_score _ _ n r j ?_
    pointwise
    rw [hi]
    exact wrap_word j
  · have ht := (BitVec.eq_zero_or_eq_one _).resolve_right fun h => hj ((P1_there m c n r).1 h)
    rw [← P2_there] at ht
    unfold fin
    rw [final_split]
    generalize P2 m c = X at ht ⊢
    after_reads_at
    simp only [Nms.rowOf_div, Nms.rowOf_mod, id_eq]
    pointwise
    rw [ht, ValueIdx.select_zero]

end Cert.ReferenceIdeal.Val

end
-- ==== Proof.Link.lean ====
/-
  The two programs choose the same boxes: from the same arguments they gather the same anchors, deltas and scores, so the rows
  they return are the same.
-/
module

public import proofs.«01_k».proof.Proof.Anchors
public import proofs.«01_k».proof.Proof.KernelIdeal.Result
public import proofs.«01_k».proof.Proof.ReferenceIdeal.Picked

@[expose] public section

set_option maxRecDepth 16384

noncomputable section

namespace Cert.Link

open Idealize.ShloMosaic Idealize.ShloMosaic.TcCoe
open Idealize.ShloMosaic.StableHlo

/-- Splitting the deltas' axis before or after moving it last is the same. -/
theorem deltas_at (x : FVec Ideal KernelIdeal.S2x60x50x50 .f32) (h₁ h₂ h₃ h₄ h₅) :
    shapeCast KernelIdeal.S2x37500x4 (transpose KernelIdeal.S2x50x50x15x4 [0, 3, 4, 1, 2] (shapeCast KernelIdeal.S2x15x4x50x50 x h₁) h₂) h₃
      = shapeCast ReferenceIdeal.S2x37500x4 (transpose ReferenceIdeal.S2x50x50x60 [0, 2, 3, 1] x h₄) h₅ := by
  funext y
  obtain ⟨n, i, k, rfl⟩ : ∃ (n : Fin 2) (i : Fin 37500) (k : Fin 4), y = ix3 n i k := ⟨y 0, y 1, y 2, eq_ix3 y⟩
  pointwise

section Take

variable (X : Valuation KernelIdeal.τ KernelIdeal.sig (Elt Ideal)) (X' : Valuation ReferenceIdeal.τ ReferenceIdeal.sig (Elt Ideal))

/-- The deltas in the order of the scores, from equal deltas and equal orders. -/
theorem take_eq (h : (X (Proc.devRef .tc KernelIdeal.main_v4) : FVec Ideal KernelIdeal.S2x37500x4 .f32) = X' (Proc.devRef .tc ReferenceIdeal.main_v3))
    (h' : (X (Proc.devRef .tc KernelIdeal.main_v12) : IVec KernelIdeal.S2x2000x1 32) = X' (Proc.devRef .tc ReferenceIdeal.main_v11)) :
    (after KernelIdeal.Gen.hostOps0_1 X (Proc.devRef .tc KernelIdeal.main_v13) : FVec Ideal KernelIdeal.S2x2000x4 .f32)
      = after ReferenceIdeal.Gen.hostOps0_1 X' (Proc.devRef .tc ReferenceIdeal.main_v12) := by
  after_reads_simp
  simp -implicitDefEqProofs only [TRef.toBuf, TRef.ofBuf, cast_cast, cast_eq]
  rw [h, h']
  rfl

/-- Taking the deltas leaves the scores and the anchors. -/
theorem take_values (h : (X (Proc.devRef .tc KernelIdeal.main_values) : FVec Ideal KernelIdeal.S2x2000 .f32) = X' (Proc.devRef .tc ReferenceIdeal.main_values)) :
    (after KernelIdeal.Gen.hostOps0_1 X (Proc.devRef .tc KernelIdeal.main_values) : FVec Ideal KernelIdeal.S2x2000 .f32)
      = after ReferenceIdeal.Gen.hostOps0_1 X' (Proc.devRef .tc ReferenceIdeal.main_values) := by
  after_reads_simp
  exact h

theorem take_anchors (h : (X (Proc.devRef .tc KernelIdeal.main_v11) : FVec Ideal KernelIdeal.S2x2000x4 .f32) = X' (Proc.devRef .tc ReferenceIdeal.main_v10)) :
    (after KernelIdeal.Gen.hostOps0_1 X (Proc.devRef .tc KernelIdeal.main_v11) : FVec Ideal KernelIdeal.S2x2000x4 .f32)
      = after ReferenceIdeal.Gen.hostOps0_1 X' (Proc.devRef .tc ReferenceIdeal.main_v10) := by
  after_reads_simp
  exact h

/-- The lines before it, from equal arguments. -/
theorem deltas_eq (h : (X (Proc.devRef .tc KernelIdeal.main_arg1) : FVec Ideal KernelIdeal.S2x60x50x50 .f32) = X' (Proc.devRef .tc ReferenceIdeal.main_arg1)) :
    (after KernelIdeal.Gen.hostOps0 X (Proc.devRef .tc KernelIdeal.main_v4) : FVec Ideal KernelIdeal.S2x37500x4 .f32)
      = after ReferenceIdeal.Gen.hostOps0 X' (Proc.devRef .tc ReferenceIdeal.main_v3) := by
  after_reads_simp
  rw [h]
  exact deltas_at _ _ _ _ _ _

theorem values_eq (h : (X (Proc.devRef .tc KernelIdeal.main_arg0) : FVec Ideal KernelIdeal.S2x15x50x50 .f32) = X' (Proc.devRef .tc ReferenceIdeal.main_arg0)) :
    (after KernelIdeal.Gen.hostOps0 X (Proc.devRef .tc KernelIdeal.main_values) : FVec Ideal KernelIdeal.S2x2000 .f32)
      = after ReferenceIdeal.Gen.hostOps0 X' (Proc.devRef .tc ReferenceIdeal.main_values) := by
  after_reads_simp
  rw [h]
  rfl

theorem order_eq (h : (X (Proc.devRef .tc KernelIdeal.main_arg0) : FVec Ideal KernelIdeal.S2x15x50x50 .f32) = X' (Proc.devRef .tc ReferenceIdeal.main_arg0)) :
    (after KernelIdeal.Gen.hostOps0 X (Proc.devRef .tc KernelIdeal.main_v12) : IVec KernelIdeal.S2x2000x1 32)
      = after ReferenceIdeal.Gen.hostOps0 X' (Proc.devRef .tc ReferenceIdeal.main_v11) := by
  after_reads_simp
  rw [h]
  rfl

theorem anchors_taken (h : (X (Proc.devRef .tc KernelIdeal.main_arg0) : FVec Ideal KernelIdeal.S2x15x50x50 .f32) = X' (Proc.devRef .tc ReferenceIdeal.main_arg0)) :
    (after KernelIdeal.Gen.hostOps0 X (Proc.devRef .tc KernelIdeal.main_v11) : FVec Ideal KernelIdeal.S2x2000x4 .f32)
      = after ReferenceIdeal.Gen.hostOps0 X' (Proc.devRef .tc ReferenceIdeal.main_v10) := by
  after_reads_simp
  rw [h, anchors_eq]
  generalize ReferenceIdeal.lit0 = T
  rfl

end Take

section Rows

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two programs are launched with the same arguments. -/
abbrev Same : Prop :=
  m' ((c : Thread ReferenceIdeal.nD ReferenceIdeal.τ).loc ReferenceIdeal.main_arg0) = m ((c : Thread KernelIdeal.nD KernelIdeal.τ).loc KernelIdeal.main_arg0)
  ∧ m' ((c : Thread ReferenceIdeal.nD ReferenceIdeal.τ).loc ReferenceIdeal.main_arg1) = m ((c : Thread KernelIdeal.nD KernelIdeal.τ).loc KernelIdeal.main_arg1)
  ∧ m' ((c : Thread ReferenceIdeal.nD ReferenceIdeal.τ).loc ReferenceIdeal.main_arg2) = m ((c : Thread KernelIdeal.nD KernelIdeal.τ).loc KernelIdeal.main_arg2)

variable {m m' c}

theorem info_eq (h : Same m m' c) : KernelIdeal.Body.info m c = ReferenceIdeal.Val.info m' c := h.2.2.symm

theorem selS_eq (h : Same m m' c) : KernelIdeal.Body.selS m c = ReferenceIdeal.Val.selS m' c := by
  unfold KernelIdeal.Body.selS ReferenceIdeal.Val.selS KernelIdeal.Body.W1 ReferenceIdeal.Val.W1
  rw [after_append, after_append]
  exact take_values _ _ (values_eq _ _ h.1.symm)

theorem selA_eq (h : Same m m' c) : KernelIdeal.Body.selA m c = ReferenceIdeal.Val.selA m' c := by
  unfold KernelIdeal.Body.selA ReferenceIdeal.Val.selA KernelIdeal.Body.W1 ReferenceIdeal.Val.W1
  rw [after_append, after_append]
  exact take_anchors _ _ (anchors_taken _ _ h.1.symm)

theorem selD_eq (h : Same m m' c) : KernelIdeal.Body.selD m c = ReferenceIdeal.Val.selD m' c := by
  unfold KernelIdeal.Body.selD ReferenceIdeal.Val.selD KernelIdeal.Body.W1 ReferenceIdeal.Val.W1
  rw [after_append, after_append]
  exact take_eq _ _ (deltas_eq _ _ h.2.1.symm) (order_eq _ _ h.1.symm)

theorem boxes_eq (h : Same m m' c) (n : Fin 2) : KernelIdeal.Body.boxes m c n = ReferenceIdeal.Val.boxes m' c n := by
  funext j
  unfold KernelIdeal.Body.boxes ReferenceIdeal.Val.boxes
  rw [selA_eq h, selD_eq h, info_eq h]

/-- The first result is the same. -/
theorem result_boxes (h : Same m m' c) :
    (ReferenceIdeal.Val.fin m' c ReferenceIdeal.main_v149 : FVec Ideal ReferenceIdeal.S2000x5 .f32) = KernelIdeal.Body.fin m c KernelIdeal.main_v24 := by
  funext y
  obtain ⟨R, k, rfl⟩ : ∃ (R : Fin 2000) (k : Fin 5), y = ix2 R k := ⟨y 0, y 1, eq_ix2 y⟩
  obtain ⟨n, r, rfl⟩ := Nms.rowOf_surj R
  refine (ReferenceIdeal.Val.fin_boxes m' c n r k).trans ((KernelIdeal.Body.fin_boxes m c n r k).trans ?_).symm
  rw [boxes_eq h, selS_eq h, info_eq h]

/-- The second result is the same. -/
theorem result_scores (h : Same m m' c) :
    (ReferenceIdeal.Val.fin m' c ReferenceIdeal.main_v150 : FVec Ideal ReferenceIdeal.S2000x1 .f32) = KernelIdeal.Body.fin m c KernelIdeal.main_v26 := by
  funext y
  obtain ⟨R, z, rfl⟩ : ∃ (R : Fin 2000) (z : Fin 1), y = ix2 R z := ⟨y 0, y 1, eq_ix2 y⟩
  obtain ⟨n, r, rfl⟩ := Nms.rowOf_surj R
  obtain rfl : z = 0 := Subsingleton.elim _ _
  refine (ReferenceIdeal.Val.fin_scores m' c n r).trans ((KernelIdeal.Body.fin_scores m c n r).trans ?_).symm
  rw [boxes_eq h, selS_eq h, info_eq h]

end Rows

end Cert.Link

end
-- ==== Proof.lean ====
/- The claims about the suppression kernel, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.ReferenceIdeal.Run
public import proofs.«01_k».proof.Proof.Link
public import Idealize.ShloMosaic.Adequacy
public import Idealize.ShloMosaic.Init

@[expose] public section

noncomputable section

namespace Cert.Proof

open Idealize.ShloMosaic Idealize.SL.Sem Cert.Kernel

/-- The kernel and the reference end with the same two results: the rows of the kept boxes and their scores. -/
theorem algebraic : Cert.algebraic_KernelIdeal_ReferenceIdeal := by
  intro m ρ m' ρ' _ hagree
  refine ⟨fun c => Cert.KernelIdeal.Body.fin m c Cert.KernelIdeal.main_v24, fun c => Cert.KernelIdeal.Body.fin m c Cert.KernelIdeal.main_v26,
    Cert.KernelIdeal.Body.run_out m ρ, ?_⟩
  refine (θ_run _ _ _).mono (fun _ h c => ?_) (Cert.ReferenceIdeal.Val.run m' ρ')
  obtain ⟨h₁, h₂, h₃⟩ := h c
  exact ⟨h₁.trans (Cert.Link.result_boxes (hagree c)), h₂.trans (Cert.Link.result_scores (hagree c)), h₃⟩

/-- Everything claimed: each program runs to its end with its arguments unchanged and every counter at zero, the ideal
    program is the kernel's own text, and the ideal kernel and the reference return the same results. -/
theorem claim : Cert.Claim := ⟨Cert.Kernel.Gen.facts, Cert.KernelIdeal.Gen.facts, Cert.ReferenceIdeal.Gen.facts,
  fun m ρ _ => Cert.Kernel.Body.frame m ρ,
  fun m ρ _ => Cert.KernelIdeal.Body.frame m ρ,
  fun m ρ _ => Cert.ReferenceIdeal.Val.frame m ρ,
  trivial, algebraic⟩

end Cert.Proof

end
